-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S100000x44 : Shape := ⟨2, ![100000, 44]⟩
abbrev S119x128 : Shape := ⟨2, ![119, 128]⟩
abbrev S5x128 : Shape := ⟨2, ![5, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S35x128 : Shape := ⟨2, ![35, 128]⟩
abbrev S128 : Shape := ⟨1, ![128]⟩
abbrev S9 : Shape := ⟨1, ![9]⟩
abbrev S100000x9 : Shape := ⟨2, ![100000, 9]⟩
abbrev S_ : Shape := ⟨0, ![]⟩
abbrev S1x9 : Shape := ⟨2, ![1, 9]⟩

class Facts : Prop where
  slices_S100000x44_S100000x9_0_0 : S100000x44.Slices ![0, 0] S100000x9
  bcast_S_S100000x9 : S_.BroadcastsInDim S100000x9 (![] : Fin 0 → Fin S100000x9.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  reducesTo_S100000x9_S_d0_1 : S100000x9.ReducesTo [0, 1] S_
  h_S_ : 0 < S_.numel

variable [Facts]

noncomputable abbrev lit0 : Fin 9 → BitVec 32 := fun
  | 0 => 0x42EE0000#32 | 1 => 0x40A00000#32 | 2 => 0x41400000#32 | 3 => 0x41400000#32 | 4 => 0x41200000#32 | 5 => 0x40C00000#32 | 6 => 0x40C00000#32 | 7 => 0x40000000#32
  | 8 => 0x40000000#32
  | _ => 0#32

def fn {F : FTy → Type} [FloatOps F] (main_arg0 : FVec F S100000x44 .f32) (main_arg1 : FVec F S119x128 .f32) (main_arg2 : FVec F S5x128 .f32) (main_arg3 : FVec F S12x128 .f32) (main_arg4 : FVec F S12x128 .f32) (main_arg5 : FVec F S10x128 .f32) (main_arg6 : FVec F S6x128 .f32) (main_arg7 : FVec F S6x128 .f32) (main_arg8 : FVec F S2x128 .f32) (main_arg9 : FVec F S2x128 .f32) (main_arg10 : FVec F S35x128 .f32) (main_arg11 : FVec F S128 .f32) : IVec S_ 1 :=
  let main_cst : FVec F S9 .f32 := fun i => FloatOps.ofBits .f32 (lit0 (S9.rowMajor i))
  let main_v0 : FVec F S100000x9 .f32 := (extractStridedSlice S100000x9 ![0, 0] · slices_S100000x44_S100000x9_0_0) main_arg0
  let main_cst_0 : FVec F S_ .f32 := constant S_ .f32 0x00000000#32
  let main_v1 : FVec F S100000x9 .f32 := broadcastInDim S100000x9 ![] bcast_S_S100000x9 main_cst_0
  let main_v2 : IVec S100000x9 1 := cmpf .oge main_v0 main_v1
  let main_v3 : FVec F S100000x9 .f32 := (extractStridedSlice S100000x9 ![0, 0] · slices_S100000x44_S100000x9_0_0) main_arg0
  let main_v4 : FVec F S1x9 .f32 := broadcastInDim S1x9 ![1] bcast_S9_S1x9_1 main_cst
  let main_v5 : FVec F S100000x9 .f32 := broadcastInDim S100000x9 ![0, 1] bcast_S1x9_S100000x9_0_1 main_v4
  let main_v6 : IVec S100000x9 1 := cmpf .olt main_v3 main_v5
  let main_v7 : IVec S100000x9 1 := andi main_v2 main_v6
  let main_c : IVec S_ 1 := constantI S_ 1 1#1
  let main_v8 : IVec S_ 1 := (fun x v => Host.reduce IntOp.andi x v reducesTo_S100000x9_S_d0_1 h_S_) main_v7 main_c
  main_v8
-- ==== Kernel.lean ====
abbrev S100000x44 : Shape := ⟨2, ![100000, 44]⟩
abbrev S119x128 : Shape := ⟨2, ![119, 128]⟩
abbrev S5x128 : Shape := ⟨2, ![5, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S35x128 : Shape := ⟨2, ![35, 128]⟩
abbrev S128 : Shape := ⟨1, ![128]⟩
abbrev S44x256 : Shape := ⟨2, ![44, 256]⟩
abbrev S1x256 : Shape := ⟨2, ![1, 256]⟩
abbrev S1x128 : Shape := ⟨2, ![1, 128]⟩
abbrev S50000x128 : Shape := ⟨2, ![50000, 128]⟩
abbrev S100000x128 : Shape := ⟨2, ![100000, 128]⟩
abbrev S10000x44 : Shape := ⟨2, ![10000, 44]⟩
abbrev S10000x128 : Shape := ⟨2, ![10000, 128]⟩
abbrev S256x128 : Shape := ⟨2, ![256, 128]⟩
abbrev S1x44 : Shape := ⟨2, ![1, 44]⟩
abbrev S10000x256 : Shape := ⟨2, ![10000, 256]⟩
abbrev S10000x35 : Shape := ⟨2, ![10000, 35]⟩

abbrev nBuf : Space → Nat
  | .hbm => 18
  | .vmem => 22
  | .smem => 0
  | _ => 0

abbrev bufTy : (tb : Table) → Fin (tcTables nBuf tb) → BufTy
  | .hbm, ⟨0, _⟩ => ⟨S100000x44, .f32⟩
  | .hbm, ⟨1, _⟩ => ⟨S119x128, .f32⟩
  | .hbm, ⟨2, _⟩ => ⟨S5x128, .f32⟩
  | .hbm, ⟨3, _⟩ => ⟨S12x128, .f32⟩
  | .hbm, ⟨4, _⟩ => ⟨S12x128, .f32⟩
  | .hbm, ⟨5, _⟩ => ⟨S10x128, .f32⟩
  | .hbm, ⟨6, _⟩ => ⟨S6x128, .f32⟩
  | .hbm, ⟨7, _⟩ => ⟨S6x128, .f32⟩
  | .hbm, ⟨8, _⟩ => ⟨S2x128, .f32⟩
  | .hbm, ⟨9, _⟩ => ⟨S2x128, .f32⟩
  | .hbm, ⟨10, _⟩ => ⟨S35x128, .f32⟩
  | .hbm, ⟨11, _⟩ => ⟨S128, .f32⟩
  | .hbm, ⟨12, _⟩ => ⟨S44x256, .f32⟩
  | .hbm, ⟨13, _⟩ => ⟨S1x256, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S100000x128, .f32⟩
  | .local _ .vmem, ⟨0, _⟩ => ⟨S10000x44, .f32⟩
  | .local _ .vmem, ⟨1, _⟩ => ⟨S10000x44, .f32⟩
  | .local _ .vmem, ⟨2, _⟩ => ⟨S10000x44, .f32⟩
  | .local _ .vmem, ⟨3, _⟩ => ⟨S10000x44, .f32⟩
  | .local _ .vmem, ⟨4, _⟩ => ⟨S119x128, .f32⟩
  | .local _ .vmem, ⟨5, _⟩ => ⟨S5x128, .f32⟩
  | .local _ .vmem, ⟨6, _⟩ => ⟨S12x128, .f32⟩
  | .local _ .vmem, ⟨7, _⟩ => ⟨S12x128, .f32⟩
  | .local _ .vmem, ⟨8, _⟩ => ⟨S10x128, .f32⟩
  | .local _ .vmem, ⟨9, _⟩ => ⟨S6x128, .f32⟩
  | .local _ .vmem, ⟨10, _⟩ => ⟨S6x128, .f32⟩
  | .local _ .vmem, ⟨11, _⟩ => ⟨S2x128, .f32⟩
  | .local _ .vmem, ⟨12, _⟩ => ⟨S2x128, .f32⟩
  | .local _ .vmem, ⟨13, _⟩ => ⟨S35x128, .f32⟩
  | .local _ .vmem, ⟨14, _⟩ => ⟨S1x128, .f32⟩
  | .local _ .vmem, ⟨15, _⟩ => ⟨S44x256, .f32⟩
  | .local _ .vmem, ⟨16, _⟩ => ⟨S1x256, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S256x128, .f32⟩
  | _, _ => ⟨S100000x44, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_cst_0 : Ref sig .tc := ⟨.hbm, 13, rfl⟩
abbrev main_call0_v0 : Ref sig .tc := ⟨.hbm, 14, rfl⟩
abbrev main_call0_v1_0 : Ref sig .tc := ⟨.hbm, 15, rfl⟩
abbrev main_call0_v1_1 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let v0 : BitVec 32 := Scalar.addi arg0 c5_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x44 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x44 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S119x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S35x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S44x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S10000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S10000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S100000x44 : Shape := ⟨2, ![100000, 44]⟩
abbrev S119x128 : Shape := ⟨2, ![119, 128]⟩
abbrev S5x128 : Shape := ⟨2, ![5, 128]⟩
abbrev S12x128 : Shape := ⟨2, ![12, 128]⟩
abbrev S10x128 : Shape := ⟨2, ![10, 128]⟩
abbrev S6x128 : Shape := ⟨2, ![6, 128]⟩
abbrev S2x128 : Shape := ⟨2, ![2, 128]⟩
abbrev S35x128 : Shape := ⟨2, ![35, 128]⟩
abbrev S128 : Shape := ⟨1, ![128]⟩
abbrev S100000x9 : Shape := ⟨2, ![100000, 9]⟩
abbrev S_ : Shape := ⟨0, ![]⟩
abbrev S100000x128 : Shape := ⟨2, ![100000, 128]⟩
abbrev S100000x1 : Shape := ⟨2, ![100000, 1]⟩
abbrev S100000 : Shape := ⟨1, ![100000]⟩
abbrev S1 : Shape := ⟨1, ![1]⟩
abbrev S1x1 : Shape := ⟨2, ![1, 1]⟩
abbrev S100000x35 : Shape := ⟨2, ![100000, 35]⟩
abbrev S1x128 : Shape := ⟨2, ![1, 128]⟩

abbrev nBuf : Space → Nat
  | .hbm => 256
  | .vmem => 0
  | .smem => 0
  | _ => 0

abbrev hbmTy0_0 (i : Nat) : BufTy := match i % 128 with
  | 0 => ⟨S100000x44, .f32⟩
  | 1 => ⟨S119x128, .f32⟩
  | 2 => ⟨S5x128, .f32⟩
  | 3 => ⟨S12x128, .f32⟩
  | 4 => ⟨S12x128, .f32⟩
  | 5 => ⟨S10x128, .f32⟩
  | 6 => ⟨S6x128, .f32⟩
  | 7 => ⟨S6x128, .f32⟩
  | 8 => ⟨S2x128, .f32⟩
  | 9 => ⟨S2x128, .f32⟩
  | 10 => ⟨S35x128, .f32⟩
  | 11 => ⟨S128, .f32⟩
  | 12 => ⟨S100000x9, .f32⟩
  | 13 => ⟨S100000x9, .i32⟩
  | 14 => ⟨S_, .f32⟩
  | 15 => ⟨S100000x128, .f32⟩
  | 16 => ⟨S100000x1, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S1, .i32⟩
  | 27 => ⟨S_, .i32⟩
  | 28 => ⟨S100000x1, .i32⟩
  | 29 => ⟨S100000x1, .i1⟩
  | 30 => ⟨S1x1, .i32⟩
  | 31 => ⟨S100000x1, .i32⟩
  | 32 => ⟨S100000x1, .i1⟩
  | 33 => ⟨S100000x1, .i1⟩
  | 34 => ⟨S_, .i1⟩
  | 35 => ⟨S100000, .i1⟩
  | 36 => ⟨S100000x128, .f32⟩
  | 37 => ⟨S100000x128, .i1⟩
  | 38 => ⟨S_, .f32⟩
  | 39 => ⟨S100000x128, .f32⟩
  | 40 => ⟨S100000x128, .f32⟩
  | 41 => ⟨S100000x128, .f32⟩
  | 42 => ⟨S100000x1, .i32⟩
  | 43 => ⟨S100000, .i32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S1, .i32⟩
  | 53 => ⟨S_, .i32⟩
  | 54 => ⟨S100000x1, .i32⟩
  | 55 => ⟨S100000x1, .i1⟩
  | 56 => ⟨S1x1, .i32⟩
  | 57 => ⟨S100000x1, .i32⟩
  | 58 => ⟨S100000x1, .i1⟩
  | 59 => ⟨S100000x1, .i1⟩
  | 60 => ⟨S_, .i1⟩
  | 61 => ⟨S100000, .i1⟩
  | 62 => ⟨S100000x128, .f32⟩
  | 63 => ⟨S100000x128, .i1⟩
  | 64 => ⟨S_, .f32⟩
  | 65 => ⟨S100000x128, .f32⟩
  | 66 => ⟨S100000x128, .f32⟩
  | 67 => ⟨S100000x128, .f32⟩
  | 68 => ⟨S100000x1, .i32⟩
  | 69 => ⟨S100000, .i32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S1, .i32⟩
  | 79 => ⟨S_, .i32⟩
  | 80 => ⟨S100000x1, .i32⟩
  | 81 => ⟨S100000x1, .i1⟩
  | 82 => ⟨S1x1, .i32⟩
  | 83 => ⟨S100000x1, .i32⟩
  | 84 => ⟨S100000x1, .i1⟩
  | 85 => ⟨S100000x1, .i1⟩
  | 86 => ⟨S_, .i1⟩
  | 87 => ⟨S100000, .i1⟩
  | 88 => ⟨S100000x128, .f32⟩
  | 89 => ⟨S100000x128, .i1⟩
  | 90 => ⟨S_, .f32⟩
  | 91 => ⟨S100000x128, .f32⟩
  | 92 => ⟨S100000x128, .f32⟩
  | 93 => ⟨S100000x128, .f32⟩
  | 94 => ⟨S100000x1, .i32⟩
  | 95 => ⟨S100000, .i32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S1, .i32⟩
  | 105 => ⟨S_, .i32⟩
  | 106 => ⟨S100000x1, .i32⟩
  | 107 => ⟨S100000x1, .i1⟩
  | 108 => ⟨S1x1, .i32⟩
  | 109 => ⟨S100000x1, .i32⟩
  | 110 => ⟨S100000x1, .i1⟩
  | 111 => ⟨S100000x1, .i1⟩
  | 112 => ⟨S_, .i1⟩
  | 113 => ⟨S100000, .i1⟩
  | 114 => ⟨S100000x128, .f32⟩
  | 115 => ⟨S100000x128, .i1⟩
  | 116 => ⟨S_, .f32⟩
  | 117 => ⟨S100000x128, .f32⟩
  | 118 => ⟨S100000x128, .f32⟩
  | 119 => ⟨S100000x128, .f32⟩
  | 120 => ⟨S100000x1, .i32⟩
  | 121 => ⟨S100000, .i32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S100000x44, .f32⟩

abbrev hbmTy0_1 (i : Nat) : BufTy := match i % 128 with
  | 0 => ⟨S100000, .i32⟩
  | 1 => ⟨S100000x1, .i32⟩
  | 2 => ⟨S1, .i32⟩
  | 3 => ⟨S_, .i32⟩
  | 4 => ⟨S100000x1, .i32⟩
  | 5 => ⟨S100000x1, .i1⟩
  | 6 => ⟨S1x1, .i32⟩
  | 7 => ⟨S100000x1, .i32⟩
  | 8 => ⟨S100000x1, .i1⟩
  | 9 => ⟨S100000x1, .i1⟩
  | 10 => ⟨S_, .i1⟩
  | 11 => ⟨S100000, .i1⟩
  | 12 => ⟨S100000x128, .f32⟩
  | 13 => ⟨S100000x128, .i1⟩
  | 14 => ⟨S_, .f32⟩
  | 15 => ⟨S100000x128, .f32⟩
  | 16 => ⟨S100000x128, .f32⟩
  | 17 => ⟨S100000x128, .f32⟩
  | 18 => ⟨S100000x1, .i32⟩
  | 19 => ⟨S100000, .i32⟩
  | 20 => ⟨S_, .i32⟩
  | 21 => ⟨S100000, .i32⟩
  | 22 => ⟨S100000, .i1⟩
  | 23 => ⟨S_, .i32⟩
  | 24 => ⟨S100000, .i32⟩
  | 25 => ⟨S100000, .i32⟩
  | 26 => ⟨S100000, .i32⟩
  | 27 => ⟨S100000x1, .i32⟩
  | 28 => ⟨S1, .i32⟩
  | 29 => ⟨S_, .i32⟩
  | 30 => ⟨S100000x1, .i32⟩
  | 31 => ⟨S100000x1, .i1⟩
  | 32 => ⟨S1x1, .i32⟩
  | 33 => ⟨S100000x1, .i32⟩
  | 34 => ⟨S100000x1, .i1⟩
  | 35 => ⟨S100000x1, .i1⟩
  | 36 => ⟨S_, .i1⟩
  | 37 => ⟨S100000, .i1⟩
  | 38 => ⟨S100000x128, .f32⟩
  | 39 => ⟨S100000x128, .i1⟩
  | 40 => ⟨S_, .f32⟩
  | 41 => ⟨S100000x128, .f32⟩
  | 42 => ⟨S100000x128, .f32⟩
  | 43 => ⟨S100000x128, .f32⟩
  | 44 => ⟨S100000x1, .i32⟩
  | 45 => ⟨S100000, .i32⟩
  | 46 => ⟨S_, .i32⟩
  | 47 => ⟨S100000, .i32⟩
  | 48 => ⟨S100000, .i1⟩
  | 49 => ⟨S_, .i32⟩
  | 50 => ⟨S100000, .i32⟩
  | 51 => ⟨S100000, .i32⟩
  | 52 => ⟨S100000, .i32⟩
  | 53 => ⟨S100000x1, .i32⟩
  | 54 => ⟨S1, .i32⟩
  | 55 => ⟨S_, .i32⟩
  | 56 => ⟨S100000x1, .i32⟩
  | 57 => ⟨S100000x1, .i1⟩
  | 58 => ⟨S1x1, .i32⟩
  | 59 => ⟨S100000x1, .i32⟩
  | 60 => ⟨S100000x1, .i1⟩
  | 61 => ⟨S100000x1, .i1⟩
  | 62 => ⟨S_, .i1⟩
  | 63 => ⟨S100000, .i1⟩
  | 64 => ⟨S100000x128, .f32⟩
  | 65 => ⟨S100000x128, .i1⟩
  | 66 => ⟨S_, .f32⟩
  | 67 => ⟨S100000x128, .f32⟩
  | 68 => ⟨S100000x128, .f32⟩
  | 69 => ⟨S100000x128, .f32⟩
  | 70 => ⟨S100000x1, .i32⟩
  | 71 => ⟨S100000, .i32⟩
  | 72 => ⟨S_, .i32⟩
  | 73 => ⟨S100000, .i32⟩
  | 74 => ⟨S100000, .i1⟩
  | 75 => ⟨S_, .i32⟩
  | 76 => ⟨S100000, .i32⟩
  | 77 => ⟨S100000, .i32⟩
  | 78 => ⟨S100000, .i32⟩
  | 79 => ⟨S100000x1, .i32⟩
  | 80 => ⟨S1, .i32⟩
  | 81 => ⟨S_, .i32⟩
  | 82 => ⟨S100000x1, .i32⟩
  | 83 => ⟨S100000x1, .i1⟩
  | 84 => ⟨S1x1, .i32⟩
  | 85 => ⟨S100000x1, .i32⟩
  | 86 => ⟨S100000x1, .i1⟩
  | 87 => ⟨S100000x1, .i1⟩
  | 88 => ⟨S_, .i1⟩
  | 89 => ⟨S100000, .i1⟩
  | 90 => ⟨S100000x128, .f32⟩
  | 91 => ⟨S100000x128, .i1⟩
  | 92 => ⟨S_, .f32⟩
  | 93 => ⟨S100000x128, .f32⟩
  | 94 => ⟨S100000x128, .f32⟩
  | 95 => ⟨S100000x128, .f32⟩
  | 96 => ⟨S100000x1, .i32⟩
  | 97 => ⟨S100000, .i32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S1, .i32⟩
  | 107 => ⟨S_, .i32⟩
  | 108 => ⟨S100000x1, .i32⟩
  | 109 => ⟨S100000x1, .i1⟩
  | 110 => ⟨S1x1, .i32⟩
  | 111 => ⟨S100000x1, .i32⟩
  | 112 => ⟨S100000x1, .i1⟩
  | 113 => ⟨S100000x1, .i1⟩
  | 114 => ⟨S_, .i1⟩
  | 115 => ⟨S100000, .i1⟩
  | 116 => ⟨S100000x128, .f32⟩
  | 117 => ⟨S100000x128, .i1⟩
  | 118 => ⟨S_, .f32⟩
  | 119 => ⟨S100000x128, .f32⟩
  | 120 => ⟨S100000x128, .f32⟩
  | 121 => ⟨S100000x128, .f32⟩
  | 122 => ⟨S100000x35, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x44, .f32⟩

abbrev hbmTy (i : Nat) : BufTy := match i / 128 with
  | 0 => hbmTy0_0 i
  | 1 => hbmTy0_1 i
  | _ => ⟨S100000x44, .f32⟩

abbrev bufTy : (tb : Table) → Fin (tcTables nBuf tb) → BufTy
  | .hbm, ⟨i, _⟩ => hbmTy i
  | _, _ => ⟨S100000x44, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v17 : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev main_call4_c : Ref sig .tc := ⟨.hbm, 122, rfl⟩
abbrev main_call4_v0 : Ref sig .tc := ⟨.hbm, 123, rfl⟩
abbrev main_call4_v1 : Ref sig .tc := ⟨.hbm, 124, rfl⟩
abbrev main_call4_c_0 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_call4_v5 : Ref sig .tc := ⟨.hbm, 129, rfl⟩
abbrev main_call4_c_1 : Ref sig .tc := ⟨.hbm, 130, rfl⟩
abbrev main_call4_c_2 : Ref sig .tc := ⟨.hbm, 131, rfl⟩
abbrev main_call4_v6 : Ref sig .tc := ⟨.hbm, 132, rfl⟩
abbrev main_call4_v7 : Ref sig .tc := ⟨.hbm, 133, rfl⟩
abbrev main_call4_v8 : Ref sig .tc := ⟨.hbm, 134, rfl⟩
abbrev main_call4_v9 : Ref sig .tc := ⟨.hbm, 135, rfl⟩
abbrev main_call4_v10 : Ref sig .tc := ⟨.hbm, 136, rfl⟩
abbrev main_call4_v11 : Ref sig .tc := ⟨.hbm, 137, rfl⟩
abbrev main_call4_c_3 : Ref sig .tc := ⟨.hbm, 138, rfl⟩
abbrev main_call4_v12 : Ref sig .tc := ⟨.hbm, 139, rfl⟩
abbrev main_call4_v13 : Ref sig .tc := ⟨.hbm, 140, rfl⟩
abbrev main_call4_v14 : Ref sig .tc := ⟨.hbm, 141, rfl⟩
abbrev main_call4_cst : Ref sig .tc := ⟨.hbm, 142, rfl⟩
abbrev main_call4_v15 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v25 : Ref sig .tc := ⟨.hbm, 170, rfl⟩
abbrev main_v26 : Ref sig .tc := ⟨.hbm, 171, rfl⟩
abbrev main_v27 : Ref sig .tc := ⟨.hbm, 172, rfl⟩
abbrev main_v28 : Ref sig .tc := ⟨.hbm, 173, rfl⟩
abbrev main_call6_c : Ref sig .tc := ⟨.hbm, 174, rfl⟩
abbrev main_call6_v0 : Ref sig .tc := ⟨.hbm, 175, rfl⟩
abbrev main_call6_v1 : Ref sig .tc := ⟨.hbm, 176, rfl⟩
abbrev main_call6_c_0 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_call6_v5 : Ref sig .tc := ⟨.hbm, 181, rfl⟩
abbrev main_call6_c_1 : Ref sig .tc := ⟨.hbm, 182, rfl⟩
abbrev main_call6_c_2 : Ref sig .tc := ⟨.hbm, 183, rfl⟩
abbrev main_call6_v6 : Ref sig .tc := ⟨.hbm, 184, rfl⟩
abbrev main_call6_v7 : Ref sig .tc := ⟨.hbm, 185, rfl⟩
abbrev main_call6_v8 : Ref sig .tc := ⟨.hbm, 186, rfl⟩
abbrev main_call6_v9 : Ref sig .tc := ⟨.hbm, 187, rfl⟩
abbrev main_call6_v10 : Ref sig .tc := ⟨.hbm, 188, rfl⟩
abbrev main_call6_v11 : Ref sig .tc := ⟨.hbm, 189, rfl⟩
abbrev main_call6_c_3 : Ref sig .tc := ⟨.hbm, 190, rfl⟩
abbrev main_call6_v12 : Ref sig .tc := ⟨.hbm, 191, rfl⟩
abbrev main_call6_v13 : Ref sig .tc := ⟨.hbm, 192, rfl⟩
abbrev main_call6_v14 : Ref sig .tc := ⟨.hbm, 193, rfl⟩
abbrev main_call6_cst : Ref sig .tc := ⟨.hbm, 194, rfl⟩
abbrev main_call6_v15 : Ref sig .tc := ⟨.hbm, 195, rfl⟩
abbrev main_v29 : Ref sig .tc := ⟨.hbm, 196, rfl⟩
abbrev main_v30 : Ref sig .tc := ⟨.hbm, 197, rfl⟩
abbrev main_v31 : Ref sig .tc := ⟨.hbm, 198, rfl⟩
abbrev main_v32 : Ref sig .tc := ⟨.hbm, 199, rfl⟩
abbrev main_call7_c : Ref sig .tc := ⟨.hbm, 200, rfl⟩
abbrev main_call7_v0 : Ref sig .tc := ⟨.hbm, 201, rfl⟩
abbrev main_call7_v1 : Ref sig .tc := ⟨.hbm, 202, rfl⟩
abbrev main_call7_c_0 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_call7_v5 : Ref sig .tc := ⟨.hbm, 207, rfl⟩
abbrev main_call7_c_1 : Ref sig .tc := ⟨.hbm, 208, rfl⟩
abbrev main_call7_c_2 : Ref sig .tc := ⟨.hbm, 209, rfl⟩
abbrev main_call7_v6 : Ref sig .tc := ⟨.hbm, 210, rfl⟩
abbrev main_call7_v7 : Ref sig .tc := ⟨.hbm, 211, rfl⟩
abbrev main_call7_v8 : Ref sig .tc := ⟨.hbm, 212, rfl⟩
abbrev main_call7_v9 : Ref sig .tc := ⟨.hbm, 213, rfl⟩
abbrev main_call7_v10 : Ref sig .tc := ⟨.hbm, 214, rfl⟩
abbrev main_call7_v11 : Ref sig .tc := ⟨.hbm, 215, rfl⟩
abbrev main_call7_c_3 : Ref sig .tc := ⟨.hbm, 216, rfl⟩
abbrev main_call7_v12 : Ref sig .tc := ⟨.hbm, 217, rfl⟩
abbrev main_call7_v13 : Ref sig .tc := ⟨.hbm, 218, rfl⟩
abbrev main_call7_v14 : Ref sig .tc := ⟨.hbm, 219, rfl⟩
abbrev main_call7_cst : Ref sig .tc := ⟨.hbm, 220, rfl⟩
abbrev main_call7_v15 : Ref sig .tc := ⟨.hbm, 221, rfl⟩
abbrev main_v33 : Ref sig .tc := ⟨.hbm, 222, rfl⟩
abbrev main_v34 : Ref sig .tc := ⟨.hbm, 223, rfl⟩
abbrev main_v35 : Ref sig .tc := ⟨.hbm, 224, rfl⟩
abbrev main_v36 : Ref sig .tc := ⟨.hbm, 225, rfl⟩
abbrev main_call8_c : Ref sig .tc := ⟨.hbm, 226, rfl⟩
abbrev main_call8_v0 : Ref sig .tc := ⟨.hbm, 227, rfl⟩
abbrev main_call8_v1 : Ref sig .tc := ⟨.hbm, 228, rfl⟩
abbrev main_call8_c_0 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_call8_v5 : Ref sig .tc := ⟨.hbm, 233, rfl⟩
abbrev main_call8_c_1 : Ref sig .tc := ⟨.hbm, 234, rfl⟩
abbrev main_call8_c_2 : Ref sig .tc := ⟨.hbm, 235, rfl⟩
abbrev main_call8_v6 : Ref sig .tc := ⟨.hbm, 236, rfl⟩
abbrev main_call8_v7 : Ref sig .tc := ⟨.hbm, 237, rfl⟩
abbrev main_call8_v8 : Ref sig .tc := ⟨.hbm, 238, rfl⟩
abbrev main_call8_v9 : Ref sig .tc := ⟨.hbm, 239, rfl⟩
abbrev main_call8_v10 : Ref sig .tc := ⟨.hbm, 240, rfl⟩
abbrev main_call8_v11 : Ref sig .tc := ⟨.hbm, 241, rfl⟩
abbrev main_call8_c_3 : Ref sig .tc := ⟨.hbm, 242, rfl⟩
abbrev main_call8_v12 : Ref sig .tc := ⟨.hbm, 243, rfl⟩
abbrev main_call8_v13 : Ref sig .tc := ⟨.hbm, 244, rfl⟩
abbrev main_call8_v14 : Ref sig .tc := ⟨.hbm, 245, rfl⟩
abbrev main_call8_cst : Ref sig .tc := ⟨.hbm, 246, rfl⟩
abbrev main_call8_v15 : Ref sig .tc := ⟨.hbm, 247, rfl⟩
abbrev main_v37 : Ref sig .tc := ⟨.hbm, 248, rfl⟩
abbrev main_v38 : Ref sig .tc := ⟨.hbm, 249, rfl⟩
abbrev main_v39 : Ref sig .tc := ⟨.hbm, 250, rfl⟩
abbrev main_v40 : Ref sig .tc := ⟨.hbm, 251, rfl⟩
abbrev main_v41 : Ref sig .tc := ⟨.hbm, 252, rfl⟩
abbrev main_v42 : Ref sig .tc := ⟨.hbm, 253, rfl⟩
abbrev main_v43 : Ref sig .tc := ⟨.hbm, 254, rfl⟩
abbrev main_v44 : Ref sig .tc := ⟨.hbm, 255, rfl⟩

abbrev nD : Nat := 1
abbrev τ : Topo := Topo.v7x

variable {F : FTy → Type} [FloatOps F]
-- ==== Proof.Frames.lean ====
/- The frames: each program runs to the end on every weakly fair execution, leaves its arguments as they were and every
   semaphore counter at zero. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The kernel's frame. -/
theorem frame_kernel : Cert.quiescent_Kernel := fun m ρ _ => Cert.Kernel.Gen.frame m ρ

/-- The frame of the kernel read over the extended reals. -/
theorem frame_kernelIdeal : Cert.quiescent_KernelIdeal := fun m ρ _ => Cert.KernelIdeal.Gen.frame m ρ

/-- The same frame, from memories where every categorical feature is in range. -/
theorem frame_kernelIdeal_in_range [Cert.Pre_in_range.Facts] : Cert.quiescent_KernelIdeal_pre_in_range :=
  fun m ρ _ => frame_kernelIdeal m ρ trivial

/-- The reference's frame: no operation writes an argument, and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The same frame, from memories where every categorical feature is in range. -/
theorem frame_reference_in_range [Cert.Pre_in_range.Facts] : Cert.quiescent_ReferenceIdeal_pre_in_range :=
  fun m ρ _ => frame_reference m ρ trivial

end Cert.Proof

end
-- ==== Proof.Point.lean ====
/-
What one grid point computes, for floats of any kind: the two output blocks as one function of the point's input blocks
and of the scratch table, and the scratch table itself, filled at the first point and unchanged afterwards.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The two zero offsets, as a constant function. -/
theorem hz : (![0, 0] : Fin 2 → Nat) = fun _ => 0 := funext fun a => by fin_cases a <;> rfl

/-- A load of the whole scratch shape after a list of writes reads the value those writes leave. -/
theorem readCov_whole (v : View sig .tc .vmem S256x128 .f32) (L : List (View.Piece (Elt F) S256x128 .f32)) (inb : ∀ a, (![0, 0] : Fin 2 → ℕ) a + S256x128.size a ≤ S256x128.size a) :
    v.readCov L (Rect.unit ![0, 0] S256x128.size inb).toLoadRect = View.canon L :=
  (View.readCov_eq_canon' v L _).trans (View.ld_unit_zero (S := S256x128) hz inb (View.canon L))

/-- The scratch table after the first grid point: zero, then the nine tables at their rows, then the bias in the last row. -/
def table (x2 : Vec F S119x128 .f32) (x3 : Vec F S5x128 .f32) (x4 x5 : Vec F S12x128 .f32) (x6 : Vec F S10x128 .f32) (x7 x8 : Vec F S6x128 .f32) (x9 x10 : Vec F S2x128 .f32) (x12 : Vec F S1x128 .f32) : Vec F S256x128 .f32 :=
  View.canon (Val := Elt F) (s := S256x128) (e := .f32)
   [⟨Rect.unit ![255, 0] ![1, 128] inb_S256x128_S1x128_255_0, x12⟩,
    ⟨Rect.unit ![200, 0] ![2, 128] inb_S256x128_S2x128_200_0, x10⟩,
    ⟨Rect.unit ![192, 0] ![2, 128] inb_S256x128_S2x128_192_0, x9⟩,
    ⟨Rect.unit ![184, 0] ![6, 128] inb_S256x128_S6x128_184_0, x8⟩,
    ⟨Rect.unit ![176, 0] ![6, 128] inb_S256x128_S6x128_176_0, x7⟩,
    ⟨Rect.unit ![160, 0] ![10, 128] inb_S256x128_S10x128_160_0, x6⟩,
    ⟨Rect.unit ![144, 0] ![12, 128] inb_S256x128_S12x128_144_0, x5⟩,
    ⟨Rect.unit ![128, 0] ![12, 128] inb_S256x128_S12x128_128_0, x4⟩,
    ⟨Rect.unit ![120, 0] ![5, 128] inb_S256x128_S5x128_120_0, x3⟩,
    ⟨Rect.unit ![0, 0] ![119, 128] inb_S256x128_S119x128_0_0, x2⟩,
    ⟨Rect.unit ![0, 0] ![256, 128] inb_S256x128_S256x128_0_0, k0_pay2⟩]

variable (c : Dev nD) (i : grid0.Coords)
  (a1 : Memref sig .tc .vmem S10000x44 .f32) (h1 : a1.IsWhole)
  (a2 : Memref sig .tc .vmem S10000x44 .f32) (h2 : a2.IsWhole)
  (a3 : Memref sig .tc .vmem S119x128 .f32) (h3 : a3.IsWhole)
  (a4 : Memref sig .tc .vmem S5x128 .f32) (h4 : a4.IsWhole)
  (a5 : Memref sig .tc .vmem S12x128 .f32) (h5 : a5.IsWhole)
  (a6 : Memref sig .tc .vmem S12x128 .f32) (h6 : a6.IsWhole)
  (a7 : Memref sig .tc .vmem S10x128 .f32) (h7 : a7.IsWhole)
  (a8 : Memref sig .tc .vmem S6x128 .f32) (h8 : a8.IsWhole)
  (a9 : Memref sig .tc .vmem S6x128 .f32) (h9 : a9.IsWhole)
  (a10 : Memref sig .tc .vmem S2x128 .f32) (h10 : a10.IsWhole)
  (a11 : Memref sig .tc .vmem S2x128 .f32) (h11 : a11.IsWhole)
  (a12 : Memref sig .tc .vmem S35x128 .f32) (h12 : a12.IsWhole)
  (a13 : Memref sig .tc .vmem S1x128 .f32) (h13 : a13.IsWhole)
  (a14 : Memref sig .tc .vmem S44x256 .f32) (h14 : a14.IsWhole)
  (a15 : Memref sig .tc .vmem S1x256 .f32) (h15 : a15.IsWhole)
  (a16 : Memref sig .tc .vmem S10000x128 .f32) (h16 : a16.IsWhole)
  (a17 : Memref sig .tc .vmem S10000x128 .f32) (h17 : a17.IsWhole)
  (a18 : Memref sig .tc .vmem S256x128 .f32) (h18 : a18.IsWhole)
  (x0 : Vec F S10000x44 .f32)
  (x1 : Vec F S10000x44 .f32)
  (x2 : Vec F S119x128 .f32)
  (x3 : Vec F S5x128 .f32)
  (x4 : Vec F S12x128 .f32)
  (x5 : Vec F S12x128 .f32)
  (x6 : Vec F S10x128 .f32)
  (x7 : Vec F S6x128 .f32)
  (x8 : Vec F S6x128 .f32)
  (x9 : Vec F S2x128 .f32)
  (x10 : Vec F S2x128 .f32)
  (x11 : Vec F S35x128 .f32)
  (x12 : Vec F S1x128 .f32)
  (x13 : Vec F S44x256 .f32)
  (x14 : Vec F S1x256 .f32)

/-- After the first point, the first output block is the block function of the first row block. -/
theorem out15_B (hc : ¬cond0_0 i) (xs : Vec F S256x128 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 xs = k0_pay13 x0 x13 x14 xs x11 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h18.read_unread, View.ld_unit_zero (S := S10000x44) hz, View.ld_unit_zero (S := S44x256) hz, View.ld_unit_zero (S := S1x256) hz, View.ld_unit_zero (S := S35x128) hz, View.ld_unit_zero (S := S119x128) hz, View.ld_unit_zero (S := S5x128) hz, View.ld_unit_zero (S := S12x128) hz, View.ld_unit_zero (S := S10x128) hz, View.ld_unit_zero (S := S6x128) hz, View.ld_unit_zero (S := S2x128) hz, View.ld_unit_zero (S := S1x128) hz, View.ld_unit_zero (S := S256x128) hz]

/-- After the first point, the second output block is the block function of the second row block. -/
theorem out16_B (hc : ¬cond0_0 i) (xs : Vec F S256x128 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 xs = k0_pay13 x1 x13 x14 xs x11 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 xs)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h18.read_unread, View.ld_unit_zero (S := S10000x44) hz, View.ld_unit_zero (S := S44x256) hz, View.ld_unit_zero (S := S1x256) hz, View.ld_unit_zero (S := S35x128) hz, View.ld_unit_zero (S := S119x128) hz, View.ld_unit_zero (S := S5x128) hz, View.ld_unit_zero (S := S12x128) hz, View.ld_unit_zero (S := S10x128) hz, View.ld_unit_zero (S := S6x128) hz, View.ld_unit_zero (S := S2x128) hz, View.ld_unit_zero (S := S1x128) hz, View.ld_unit_zero (S := S256x128) hz]
  rfl

/-- The first point leaves the table in the scratch. -/
theorem scratch_A (hc : cond0_0 i) :
    sout0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 = table x2 x3 x4 x5 x6 x7 x8 x9 x10 x12 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h18.read_unread, View.ld_unit_zero (S := S10000x44) hz, View.ld_unit_zero (S := S44x256) hz, View.ld_unit_zero (S := S1x256) hz, View.ld_unit_zero (S := S35x128) hz, View.ld_unit_zero (S := S119x128) hz, View.ld_unit_zero (S := S5x128) hz, View.ld_unit_zero (S := S12x128) hz, View.ld_unit_zero (S := S10x128) hz, View.ld_unit_zero (S := S6x128) hz, View.ld_unit_zero (S := S2x128) hz, View.ld_unit_zero (S := S1x128) hz, View.ld_unit_zero (S := S256x128) hz, k0_pay3, k0_pay4, k0_pay5, k0_pay6, k0_pay7, k0_pay8, k0_pay9, k0_pay10, k0_pay11, k0_pay12, shapeCast_self]
  rfl

/-- At the first point, the first output block is the block function over the table just stored. -/
theorem out15_A (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 = k0_pay13 x0 x13 x14 (table x2 x3 x4 x5 x6 x7 x8 x9 x10 x12) x11 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14)]
  unfold kernelRun0_A
  dsimp only
  sl_unfold_words
  rw [View.canon_unit_zero hz]
  rw [readCov_whole]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h18.read_unread, View.ld_unit_zero (S := S10000x44) hz, View.ld_unit_zero (S := S44x256) hz, View.ld_unit_zero (S := S1x256) hz, View.ld_unit_zero (S := S35x128) hz, View.ld_unit_zero (S := S119x128) hz, View.ld_unit_zero (S := S5x128) hz, View.ld_unit_zero (S := S12x128) hz, View.ld_unit_zero (S := S10x128) hz, View.ld_unit_zero (S := S6x128) hz, View.ld_unit_zero (S := S2x128) hz, View.ld_unit_zero (S := S1x128) hz, View.ld_unit_zero (S := S256x128) hz, k0_pay3, k0_pay4, k0_pay5, k0_pay6, k0_pay7, k0_pay8, k0_pay9, k0_pay10, k0_pay11, k0_pay12, shapeCast_self]
  rfl

/-- At the first point, the second output block is the block function over the table just stored. -/
theorem out16_A (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14 = k0_pay13 x1 x13 x14 (table x2 x3 x4 x5 x6 x7 x8 x9 x10 x12) x11 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 x13 x14)]
  unfold kernelRun0_A
  dsimp only
  sl_unfold_words
  rw [View.canon_unit_zero hz]
  rw [readCov_whole]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h18.read_unread, View.ld_unit_zero (S := S10000x44) hz, View.ld_unit_zero (S := S44x256) hz, View.ld_unit_zero (S := S1x256) hz, View.ld_unit_zero (S := S35x128) hz, View.ld_unit_zero (S := S119x128) hz, View.ld_unit_zero (S := S5x128) hz, View.ld_unit_zero (S := S12x128) hz, View.ld_unit_zero (S := S10x128) hz, View.ld_unit_zero (S := S6x128) hz, View.ld_unit_zero (S := S2x128) hz, View.ld_unit_zero (S := S1x128) hz, View.ld_unit_zero (S := S256x128) hz, k0_pay3, k0_pay4, k0_pay5, k0_pay6, k0_pay7, k0_pay8, k0_pay9, k0_pay10, k0_pay11, k0_pay12, shapeCast_self]
  rfl

end Cert.KernelIdeal.Hand
end
-- ==== Proof.Points.lean ====
/-
The blocks the windows stage and what every grid point leaves: the operands are staged whole, the scratch table is the
same at every point, and each output block is the block function of its rows.
-/
module

public import proofs.«01_k».proof.Proof.Point

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Window 2 stages its whole array at every point. -/
theorem iblk2 (c : Dev nD) (t : Fin cfg0.N) : iblk m c 2 t = m ((c : Thread nD τ).loc main_arg1) := by
  show (win0_2.blk t).view.read (Elt F) (V m c main_arg1) = _
  rw [V_main_arg1]
  exact Memref.read_access_unit_zero (Elt F) main_arg1 (show (fun a => win0_2.index t a * main_arg1.ty.shape.size a) = fun _ => 0 from
    funext fun a => by fin_cases a <;> rfl) _ _

/-- Window 3 stages its whole array at every point. -/
theorem iblk3 (c : Dev nD) (t : Fin cfg0.N) : iblk m c 3 t = m ((c : Thread nD τ).loc main_arg2) := by
  show (win0_3.blk t).view.read (Elt F) (V m c main_arg2) = _
  rw [V_main_arg2]
  exact Memref.read_access_unit_zero (Elt F) main_arg2 (show (fun a => win0_3.index t a * main_arg2.ty.shape.size a) = fun _ => 0 from
    funext fun a => by fin_cases a <;> rfl) _ _

/-- Window 4 stages its whole array at every point. -/
theorem iblk4 (c : Dev nD) (t : Fin cfg0.N) : iblk m c 4 t = m ((c : Thread nD τ).loc main_arg3) := by
  show (win0_4.blk t).view.read (Elt F) (V m c main_arg3) = _
  rw [V_main_arg3]
  exact Memref.read_access_unit_zero (Elt F) main_arg3 (show (fun a => win0_4.index t a * main_arg3.ty.shape.size a) = fun _ => 0 from
    funext fun a => by fin_cases a <;> rfl) _ _

/-- Window 5 stages its whole array at every point. -/
theorem iblk5 (c : Dev nD) (t : Fin cfg0.N) : iblk m c 5 t = m ((c : Thread nD τ).loc main_arg4) := by
  show (win0_5.blk t).view.read (Elt F) (V m c main_arg4) = _
  rw [V_main_arg4]
  exact Memref.read_access_unit_zero (Elt F) main_arg4 (show (fun a => win0_5.index t a * main_arg4.ty.shape.size a) = fun _ => 0 from
    funext fun a => by fin_cases a <;> rfl) _ _

/-- Window 6 stages its whole array at every point. -/
theorem iblk6 (c : Dev nD) (t : Fin cfg0.N) : iblk m c 6 t = m ((c : Thread nD τ).loc main_arg5) := by
  show (win0_6.blk t).view.read (Elt F) (V m c main_arg5) = _
  rw [V_main_arg5]
  exact Memref.read_access_unit_zero (Elt F) main_arg5 (show (fun a => win0_6.index t a * main_arg5.ty.shape.size a) = fun _ => 0 from
    funext fun a => by fin_cases a <;> rfl) _ _

/-- Window 7 stages its whole array at every point. -/
theorem iblk7 (c : Dev nD) (t : Fin cfg0.N) : iblk m c 7 t = m ((c : Thread nD τ).loc main_arg6) := by
  show (win0_7.blk t).view.read (Elt F) (V m c main_arg6) = _
  rw [V_main_arg6]
  exact Memref.read_access_unit_zero (Elt F) main_arg6 (show (fun a => win0_7.index t a * main_arg6.ty.shape.size a) = fun _ => 0 from
    funext fun a => by fin_cases a <;> rfl) _ _

/-- Window 8 stages its whole array at every point. -/
theorem iblk8 (c : Dev nD) (t : Fin cfg0.N) : iblk m c 8 t = m ((c : Thread nD τ).loc main_arg7) := by
  show (win0_8.blk t).view.read (Elt F) (V m c main_arg7) = _
  rw [V_main_arg7]
  exact Memref.read_access_unit_zero (Elt F) main_arg7 (show (fun a => win0_8.index t a * main_arg7.ty.shape.size a) = fun _ => 0 from
    funext fun a => by fin_cases a <;> rfl) _ _

/-- Window 9 stages its whole array at every point. -/
theorem iblk9 (c : Dev nD) (t : Fin cfg0.N) : iblk m c 9 t = m ((c : Thread nD τ).loc main_arg8) := by
  show (win0_9.blk t).view.read (Elt F) (V m c main_arg8) = _
  rw [V_main_arg8]
  exact Memref.read_access_unit_zero (Elt F) main_arg8 (show (fun a => win0_9.index t a * main_arg8.ty.shape.size a) = fun _ => 0 from
    funext fun a => by fin_cases a <;> rfl) _ _

/-- Window 10 stages its whole array at every point. -/
theorem iblk10 (c : Dev nD) (t : Fin cfg0.N) : iblk m c 10 t = m ((c : Thread nD τ).loc main_arg9) := by
  show (win0_10.blk t).view.read (Elt F) (V m c main_arg9) = _
  rw [V_main_arg9]
  exact Memref.read_access_unit_zero (Elt F) main_arg9 (show (fun a => win0_10.index t a * main_arg9.ty.shape.size a) = fun _ => 0 from
    funext fun a => by fin_cases a <;> rfl) _ _

/-- Window 11 stages its whole array at every point. -/
theorem iblk11 (c : Dev nD) (t : Fin cfg0.N) : iblk m c 11 t = m ((c : Thread nD τ).loc main_arg10) := by
  show (win0_11.blk t).view.read (Elt F) (V m c main_arg10) = _
  rw [V_main_arg10]
  exact Memref.read_access_unit_zero (Elt F) main_arg10 (show (fun a => win0_11.index t a * main_arg10.ty.shape.size a) = fun _ => 0 from
    funext fun a => by fin_cases a <;> rfl) _ _

/-- Window 12 stages its whole array at every point. -/
theorem iblk12 (c : Dev nD) (t : Fin cfg0.N) : iblk m c 12 t = V m c main_call0_v0 := by
  show (win0_12.blk t).view.read (Elt F) (V m c main_call0_v0) = _
  exact Memref.read_access_unit_zero (Elt F) main_call0_v0 (show (fun a => win0_12.index t a * main_call0_v0.ty.shape.size a) = fun _ => 0 from
    funext fun a => by fin_cases a <;> rfl) _ _

/-- Window 13 stages its whole array at every point. -/
theorem iblk13 (c : Dev nD) (t : Fin cfg0.N) : iblk m c 13 t = V m c main_call0_cst := by
  show (win0_13.blk t).view.read (Elt F) (V m c main_call0_cst) = _
  exact Memref.read_access_unit_zero (Elt F) main_call0_cst (show (fun a => win0_13.index t a * main_call0_cst.ty.shape.size a) = fun _ => 0 from
    funext fun a => by fin_cases a <;> rfl) _ _

/-- Window 14 stages its whole array at every point. -/
theorem iblk14 (c : Dev nD) (t : Fin cfg0.N) : iblk m c 14 t = V m c main_call0_cst_0 := by
  show (win0_14.blk t).view.read (Elt F) (V m c main_call0_cst_0) = _
  exact Memref.read_access_unit_zero (Elt F) main_call0_cst_0 (show (fun a => win0_14.index t a * main_call0_cst_0.ty.shape.size a) = fun _ => 0 from
    funext fun a => by fin_cases a <;> rfl) _ _

/-- The scratch table of core `c`'s operands. -/
def tab (c : Dev nD) : Vec F S256x128 .f32 :=
  table (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (V m c main_call0_v0)

/-- The block function at core `c`'s operands: what a block `x` of rows becomes. -/
def blockOf (c : Dev nD) (x : Vec F S10000x44 .f32) : Vec F S10000x128 .f32 :=
  k0_pay13 x (V m c main_call0_cst) (V m c main_call0_cst_0) (tab m c) (m ((c : Thread nD τ).loc main_arg10))

/-- What the first point leaves. -/
theorem outs_A (c : Dev nD) (t : Fin cfg0.N) (h0 : t.val % 5 = 0) :
    outsAt0 m c t.val t.isLt = (blockOf m c (iblk m c 0 t), blockOf m c (iblk m c 1 t), tab m c) := by
  rw [outsAt0_A m c t h0, out15_A, out16_A, scratch_A]
  simp only [iblk2 m c, iblk3 m c, iblk4 m c, iblk5 m c, iblk6 m c, iblk7 m c, iblk8 m c, iblk9 m c, iblk10 m c, iblk11 m c, iblk12 m c, iblk13 m c, iblk14 m c]
  rfl

/-- What a later point leaves, over what the point before left in the scratch. -/
theorem outs_B (c : Dev nD) (t : Fin cfg0.N) (h0 : ¬t.val % 5 = 0)
    (hs : (outsAt0 m c (t.val - 1) (Nat.lt_of_le_of_lt (Nat.sub_le _ _) t.isLt)).2.2 = tab m c) :
    outsAt0 m c t.val t.isLt = (blockOf m c (iblk m c 0 t), blockOf m c (iblk m c 1 t), tab m c) := by
  rw [outsAt0_B m c t h0, out15_B, out16_B, hs]
  unfold sout0_B_0
  simp only [iblk2 m c, iblk3 m c, iblk4 m c, iblk5 m c, iblk6 m c, iblk7 m c, iblk8 m c, iblk9 m c, iblk10 m c, iblk11 m c, iblk12 m c, iblk13 m c, iblk14 m c]
  rfl

/-- What every point leaves. -/
theorem outs_eq (c : Dev nD) : ∀ (n : ℕ) (hn : n < cfg0.N),
    outsAt0 m c n hn = (blockOf m c (iblk m c 0 ⟨n, hn⟩), blockOf m c (iblk m c 1 ⟨n, hn⟩), tab m c)
  | 0, hn => outs_A m c ⟨0, hn⟩ rfl
  | n + 1, hn => outs_B m c ⟨n + 1, hn⟩ (by have : n + 1 < 5 := hn; show ¬(n + 1) % 5 = 0; omega)
      (congrArg (fun p => p.2.2) (outs_eq c n (Nat.lt_of_succ_lt hn)))

end Cert.KernelIdeal.Hand
end
-- ==== Proof.Array.lean ====
/-
The two output arrays after the region: each row is the block function's row for the features of the point that wrote it.
-/
module

public import proofs.«01_k».proof.Proof.Points
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (c : Dev nD)

/-- The first features window reads block `t` of the features, the second block `t + 5`. -/
theorem index_in : ∀ t : Fin cfg0.N, (win0_0.index t 0 = t.val ∧ win0_0.index t 1 = 0)
    ∧ (win0_1.index t 0 = t.val + 5 ∧ win0_1.index t 1 = 0) :=
  (by decide +kernel : ∀ t : Fin grid0.N, (win0_0.index t 0 = t.val ∧ win0_0.index t 1 = 0)
    ∧ (win0_1.index t 0 = t.val + 5 ∧ win0_1.index t 1 = 0))

/-- Both output windows write block `t`. -/
theorem index_out : ∀ t : Fin cfg0.N, (win0_15.index t 0 = t.val ∧ win0_15.index t 1 = 0)
    ∧ (win0_16.index t 0 = t.val ∧ win0_16.index t 1 = 0) :=
  (by decide +kernel : ∀ t : Fin grid0.N, (win0_15.index t 0 = t.val ∧ win0_15.index t 1 = 0)
    ∧ (win0_16.index t 0 = t.val ∧ win0_16.index t 1 = 0))

/-- What point `t` leaves in the first output's block is what it writes back there. -/
theorem flushed15 (t : Fin cfg0.N) :
    (dats m 0 c).flushed 15 t = (cfg0.win 15).cut (grid0.coords t) (blockOf m c (iblk m c 0 t)) := by
  show (cfg0.win 15).cut (grid0.coords t) ((dats m 0 c).after 15 t) = _
  rw [after0_15, outs_eq]

/-- What point `t` leaves in the second output's block is what it writes back there. -/
theorem flushed16 (t : Fin cfg0.N) :
    (dats m 0 c).flushed 16 t = (cfg0.win 16).cut (grid0.coords t) (blockOf m c (iblk m c 1 t)) := by
  show (cfg0.win 16).cut (grid0.coords t) ((dats m 0 c).after 16 t) = _
  rw [after0_16, outs_eq]

/-- Block `t` of the first output is what point `t` wrote. -/
theorem block15 (t : Fin cfg0.N) :
    ((cfg0.win 15).blk t).view.read (Elt F) ((dats m 0 c).arrAt 15 cfg0.N)
      = (cfg0.win 15).cut (grid0.coords t) (blockOf m c (iblk m c 0 t)) :=
  ((dats m 0 c).read_blk_arrAt_eq_flushed 15 (fun t t' _ _ hne => (cfg0.win 15).disjoint_blk fun h =>
    hne (Fin.ext ((index_out t).1.1.symm.trans ((congrFun h 0).trans (index_out t').1.1)))) cfg0.N t t.isLt (flush0_15 t)).trans
    (flushed15 m c t)

/-- Block `t` of the second output is what point `t` wrote. -/
theorem block16 (t : Fin cfg0.N) :
    ((cfg0.win 16).blk t).view.read (Elt F) ((dats m 0 c).arrAt 16 cfg0.N)
      = (cfg0.win 16).cut (grid0.coords t) (blockOf m c (iblk m c 1 t)) :=
  ((dats m 0 c).read_blk_arrAt_eq_flushed 16 (fun t t' _ _ hne => (cfg0.win 16).disjoint_blk fun h =>
    hne (Fin.ext ((index_out t).2.1.symm.trans ((congrFun h 0).trans (index_out t').2.1)))) cfg0.N t t.isLt (flush0_16 t)).trans
    (flushed16 m c t)

/-- The first output at row `10000 t + s`. -/
theorem array15 (t : Fin cfg0.N) (s : Fin 10000) (d : Fin 128) (i : Fin 50000) (hi : i.val = t.val * 10000 + s.val) :
    ((dats m 0 c).arrAt 15 cfg0.N : Vec F S50000x128 .f32) (ix2 i d) = blockOf m c (iblk m c 0 t) (ix2 s d) := by
  have h := congrFun (block15 m c t) (ix2 s d)
  rw [View.read_apply] at h
  refine Eq.trans (congrArg ((dats m 0 c).arrAt 15 cfg0.N) (funext fun a => Fin.ext ?_)) (h.trans rfl)
  match a with
  | ⟨0, _⟩ =>
    show i.val = win0_15.index t 0 * 10000 + 1 * s.val
    rw [(index_out t).1.1]; omega
  | ⟨1, _⟩ =>
    show d.val = win0_15.index t 1 * 128 + 1 * d.val
    rw [(index_out t).1.2]; omega

/-- The second output at row `10000 t + s`. -/
theorem array16 (t : Fin cfg0.N) (s : Fin 10000) (d : Fin 128) (i : Fin 50000) (hi : i.val = t.val * 10000 + s.val) :
    ((dats m 0 c).arrAt 16 cfg0.N : Vec F S50000x128 .f32) (ix2 i d) = blockOf m c (iblk m c 1 t) (ix2 s d) := by
  have h := congrFun (block16 m c t) (ix2 s d)
  rw [View.read_apply] at h
  refine Eq.trans (congrArg ((dats m 0 c).arrAt 16 cfg0.N) (funext fun a => Fin.ext ?_)) (h.trans rfl)
  match a with
  | ⟨0, _⟩ =>
    show i.val = win0_16.index t 0 * 10000 + 1 * s.val
    rw [(index_out t).2.1]; omega
  | ⟨1, _⟩ =>
    show d.val = win0_16.index t 1 * 128 + 1 * d.val
    rw [(index_out t).2.2]; omega

/-- The first features block at row `s` is the features' row `10000 t + s`. -/
theorem iblk0_apply (t : Fin cfg0.N) (s : Fin 10000) (k : Fin 44) (r : Fin 100000) (hr : r.val = t.val * 10000 + s.val) :
    (iblk m c 0 t : Vec F S10000x44 .f32) (ix2 s k)
      = (m ((c : Thread nD τ).loc main_arg0) : Vec F S100000x44 .f32) (ix2 r k) := by
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 10000 + 1 * s.val = r.val
    rw [(index_in t).1.1]; omega
  | ⟨1, _⟩ =>
    show win0_0.index t 1 * 44 + 1 * k.val = k.val
    rw [(index_in t).1.2]; omega

/-- The second features block at row `s` is the features' row `10000 (t + 5) + s`. -/
theorem iblk1_apply (t : Fin cfg0.N) (s : Fin 10000) (k : Fin 44) (r : Fin 100000) (hr : r.val = (t.val + 5) * 10000 + s.val) :
    (iblk m c 1 t : Vec F S10000x44 .f32) (ix2 s k)
      = (m ((c : Thread nD τ).loc main_arg0) : Vec F S100000x44 .f32) (ix2 r k) := by
  unfold iblk
  rw [View.read_apply]
  show V m c main_arg0 _ = _
  rw [V_main_arg0]
  refine congrArg (m ((c : Thread nD τ).loc main_arg0)) (funext fun a => Fin.ext ?_)
  match a with
  | ⟨0, _⟩ =>
    show win0_1.index t 0 * 10000 + 1 * s.val = r.val
    rw [(index_in t).2.1]; omega
  | ⟨1, _⟩ =>
    show win0_1.index t 1 * 44 + 1 * k.val = k.val
    rw [(index_in t).2.2]; omega

end Cert.KernelIdeal.Hand

end
-- ==== Proof.Rows.lean ====
/-
The arrangement of the nine tables in the 256 rows of the stacked table: each table's first row and its number of rows.
-/
module

public import Idealize.ShloMosaic.Lib.Pointwise

@[expose] public section

namespace Cert.KernelIdeal.Hand

/-- The first stacked row of each table. -/
def off : Fin 9 → ℕ := ![0, 120, 128, 144, 160, 176, 184, 192, 200]

/-- The number of rows of each table. -/
def dim : Fin 9 → ℕ := ![119, 5, 12, 12, 10, 6, 6, 2, 2]

/-- Every table lies in the stacked rows before the last. -/
theorem off_add_lt (k : Fin 9) : off k + dim k < 255 := by revert k; decide

/-- Two tables' stacked rows do not meet. -/
theorem off_disjoint (k l : Fin 9) (h : k ≠ l) : off k + dim k ≤ off l ∨ off l + dim l ≤ off k := by
  revert k l; decide

/-- Stacked row `j` is a row of table `k`. -/
def inSeg (k : Fin 9) (j : ℕ) : Prop := off k ≤ j ∧ j < off k + dim k

instance (k : Fin 9) (j : ℕ) : Decidable (inSeg k j) := inferInstanceAs (Decidable (_ ∧ _))

end Cert.KernelIdeal.Hand
end
-- ==== Proof.Literals.lean ====
/-
The words of the kernel's two constant tables.
-/
module

public import proofs.«01_k».proof.Proof.Gen.KernelIdeal.Skeleton
public import proofs.«01_k».proof.Proof.Rows

@[expose] public section

set_option maxRecDepth 16384

noncomputable section

namespace Cert.KernelIdeal.Hand

open Cert.KernelIdeal Cert.KernelIdeal.Gen Idealize.ShloMosaic

/-- The selection matrix's words in the nine lookup lanes. -/
theorem lit0_low : ∀ (k : Fin 9) (j : Fin 256), lit0 (S44x256.rowMajor (ix2 (k.castLE (by decide) : Fin 44) j))
    = if inSeg k j then 0x3F800000#32 else 0x00000000#32 := by
  decide +kernel

/-- The selection matrix's words in the other lanes. -/
theorem lit0_high : ∀ (k : Fin 35) (j : Fin 256), lit0 (S44x256.rowMajor (ix2 (k.natAdd 9 : Fin 44) j)) = 0x00000000#32 := by
  decide +kernel

/-- The label words of a table's rows: a zero word at row zero, otherwise a normal word whose value is the row. -/
theorem lit1_seg : ∀ (k : Fin 9) (j : Fin 256), inSeg k j →
    (j.val = off k ∧ lit1 (S1x256.rowMajor (ix2 0 j)) = 0x00000000#32) ∨
    (((lit1 (S1x256.rowMajor (ix2 0 j))).extractLsb' 31 1 == 1#1) = false
      ∧ ((lit1 (S1x256.rowMajor (ix2 0 j))).extractLsb' 23 8).toNat ≠ 255
      ∧ ((lit1 (S1x256.rowMajor (ix2 0 j))).extractLsb' 23 8).toNat ≠ 0
      ∧ ((lit1 (S1x256.rowMajor (ix2 0 j))).extractLsb' 23 8).toNat ≤ 150
      ∧ 2 ^ 23 + ((lit1 (S1x256.rowMajor (ix2 0 j))).extractLsb' 0 23).toNat
          = (j.val - off k) * 2 ^ (150 - ((lit1 (S1x256.rowMajor (ix2 0 j))).extractLsb' 23 8).toNat)) := by
  decide +kernel

/-- The last label word. -/
theorem lit1_last : lit1 (S1x256.rowMajor (ix2 0 (255 : Fin 256))) = 0x00000000#32 := by
  decide +kernel

end Cert.KernelIdeal.Hand
end
-- ==== Proof.Tables.lean ====
/-
The kernel's two constant tables in closed form: the selection matrix is one exactly where the column is a row of the
lane's table, and the row labels count each table's rows from zero and are zero at the last row.
-/
module

public import proofs.«01_k».proof.Proof.Literals

@[expose] public section

set_option maxRecDepth 16384

noncomputable section

namespace Cert.KernelIdeal.Hand

open Cert.KernelIdeal Cert.KernelIdeal.Gen Idealize.ShloMosaic

/-- The selection matrix. -/
def selM : Vec Ideal S44x256 .f32 := fun i => Ideal.ofBits .f32 (lit0 (S44x256.rowMajor i))

/-- The row labels. -/
def labels : Vec Ideal S1x256 .f32 := fun i => Ideal.ofBits .f32 (lit1 (S1x256.rowMajor i))

/-- A positive normal binary32 word whose significand is `a` times a power of two that undoes its exponent stands for `a`. -/
theorem ofBits_of_nat (w : BitVec 32) (a : ℕ) (hs : (w.extractLsb' 31 1 == 1#1) = false)
    (h255 : (w.extractLsb' 23 8).toNat ≠ 255) (h0 : (w.extractLsb' 23 8).toNat ≠ 0) (hle : (w.extractLsb' 23 8).toNat ≤ 150)
    (h : 2 ^ 23 + (w.extractLsb' 0 23).toNat = a * 2 ^ (150 - (w.extractLsb' 23 8).toNat)) :
    Ideal.ofBits .f32 w = ((a : ℝ) : EReal) := by
  show Ideal.ieee 8 23 w = _
  unfold Ideal.ieee
  dsimp only
  rw [if_neg (by simpa using h255), if_neg h0, h, hs]
  generalize (w.extractLsb' 23 8).toNat = e at *
  congr 1
  obtain ⟨n, hn⟩ : ∃ n, 150 = e + n := ⟨150 - e, by omega⟩
  have he : ((e : ℤ) - (2 ^ (8 - 1) - 1) - (23 : ℕ)) = -(n : ℤ) := by
    norm_num; omega
  rw [he, hn, Nat.add_sub_cancel_left]
  push_cast
  rw [zpow_neg, zpow_natCast]
  have : (2 : ℝ) ^ n ≠ 0 := by positivity
  field_simp

/-- The selection matrix in the lookup lanes. -/
theorem selM_low (k : Fin 9) (j : Fin 256) : selM (ix2 (k.castLE (by decide) : Fin 44) j) = if inSeg k j then 1 else 0 := by
  show Ideal.ofBits .f32 (lit0 (S44x256.rowMajor (ix2 (k.castLE (by decide) : Fin 44) j))) = _
  rw [lit0_low]
  split
  · exact Ideal.ofBits_one_f32
  · exact Ideal.ofBits_zero_f32

/-- The selection matrix in the other lanes. -/
theorem selM_high (k : Fin 35) (j : Fin 256) : selM (ix2 (k.natAdd 9 : Fin 44) j) = 0 := by
  show Ideal.ofBits .f32 (lit0 (S44x256.rowMajor (ix2 (k.natAdd 9 : Fin 44) j))) = _
  rw [lit0_high]
  exact Ideal.ofBits_zero_f32

/-- The label of a table's row is the row's number in its table. -/
theorem labels_seg (k : Fin 9) (j : Fin 256) (h : inSeg k j) : labels (ix2 0 j) = (((j.val - off k : ℕ) : ℝ) : EReal) := by
  show Ideal.ofBits .f32 (lit1 (S1x256.rowMajor (ix2 0 j))) = _
  rcases lit1_seg k j h with ⟨e, hw⟩ | ⟨h1, h2, h3, h4, h5⟩
  · rw [hw, e, Nat.sub_self]
    simpa using Ideal.ofBits_zero_f32
  · exact ofBits_of_nat _ _ h1 h2 h3 h4 h5

/-- The last label is zero. -/
theorem labels_last : labels (ix2 0 (255 : Fin 256)) = 0 := by
  show Ideal.ofBits .f32 (lit1 (S1x256.rowMajor (ix2 0 (255 : Fin 256)))) = _
  rw [lit1_last]
  exact Ideal.ofBits_zero_f32

end Cert.KernelIdeal.Hand
end
-- ==== Proof.Pick.lean ====
/-
The one-hot product with the stacked table: each table contributes the one row its looked-up number names, and the last
row contributes itself.
-/
module

public import proofs.«01_k».proof.Proof.Rows

@[expose] public section

noncomputable section

namespace Cert.KernelIdeal.Hand

open Idealize.ShloMosaic

/-- A sum of columns weighted by zero or one, in which a row of table `k` has weight one exactly when it is row `n k`. -/
theorem pick_sum (n : Fin 9 → ℕ) (hn : ∀ k, n k < dim k) (w T : Fin 256 → EReal) (E : Fin 9 → ℕ → EReal) (b : EReal)
    (hw : ∀ k (j : Fin 256), inSeg k j → w j = if n k = j.val - off k then 1 else 0) (hlast : w 255 = 1)
    (hT : ∀ k (j : Fin 256), inSeg k j → T j = E k (j.val - off k)) (hTlast : T 255 = b)
    (hT0 : ∀ j : Fin 256, j ≠ 255 → (∀ k, ¬inSeg k j) → T j = 0) :
    ∑ j, w j * T j = (∑ k, E k (n k)) + b := by
  have hlt (k : Fin 9) : off k + n k < 255 := lt_trans (Nat.add_lt_add_left (hn k) _) (off_add_lt k)
  have key (j : Fin 256) : w j * T j
      = (∑ k, if j = (⟨off k + n k, by have := hlt k; omega⟩ : Fin 256) then E k (n k) else 0) + if j = 255 then b else 0 := by
    by_cases h255 : j = 255
    · subst h255
      rw [hlast, hTlast, one_mul, if_pos rfl, Finset.sum_eq_zero, zero_add]
      intro k _
      rw [if_neg]
      intro h
      have := congrArg Fin.val h
      have := hlt k
      simp only [Fin.isValue] at *
      omega
    · rw [if_neg h255, add_zero]
      by_cases hs : ∃ k, inSeg k j
      · obtain ⟨k, hk⟩ := hs
        rw [Finset.sum_eq_single k, hw k j hk, hT k j hk]
        · obtain ⟨h1, h2⟩ := hk
          by_cases e : n k = j.val - off k
          · rw [if_pos e, if_pos (Fin.ext (by simp only; omega)), one_mul, e]
          · rw [if_neg e, if_neg (fun h => e (by have := congrArg Fin.val h; simp only at this; omega)), zero_mul]
        · intro l _ hl
          rw [if_neg]
          intro h
          have := congrArg Fin.val h
          simp only at this
          have := hn l
          obtain ⟨h1, h2⟩ := hk
          rcases off_disjoint l k hl with h | h <;> omega
        · intro h; exact absurd (Finset.mem_univ k) h
      · push Not at hs
        rw [hT0 j h255 hs, mul_zero, Finset.sum_eq_zero]
        intro k _
        rw [if_neg]
        intro h
        have := congrArg Fin.val h
        simp only at this
        exact hs k ⟨by omega, by have := hn k; omega⟩
  rw [Finset.sum_congr rfl fun j _ => key j, Finset.sum_add_distrib, Finset.sum_comm]
  simp only [Finset.sum_ite_eq', Finset.mem_univ, if_true]

end Cert.KernelIdeal.Hand
end
-- ==== Proof.Block.lean ====
/-
One block of output rows, element by element, over the extended reals.
-/
module

public import proofs.«01_k».proof.Proof.Tables
public import proofs.«01_k».proof.Proof.Pick

@[expose] public section

set_option maxRecDepth 16384

noncomputable section

namespace Cert.KernelIdeal.Hand

open Cert.KernelIdeal Cert.KernelIdeal.Gen Idealize.ShloMosaic

/-- The floors in the nine lookup lanes, the entries themselves in the other lanes. -/
theorem pay14_apply (x : Vec Ideal S10000x44 .f32) (r : Fin 10000) (k : Fin 44) :
    k0_pay14 x (ix2 r k) = if k.val < 9 then Ideal.liftRound Int.floor (x (ix2 r k)) else x (ix2 r k) := by
  pointwise [k0_pay14]
  have h : IntOp.cmpi CmpIPredicate.slt (BitVec.ofNat 32 k.val) 9#32 = BitVec.ofBool (decide (k.val < 9)) := by
    revert k; decide
  rw [h]
  by_cases hk : k.val < 9 <;> simp [hk, Scalar.select]

/-- A row's selected number in column `j`: the floor of the entry of the table that `j` belongs to. -/
def sel (x : Fin 44 → EReal) (j : Fin 256) : EReal :=
  ∑ k : Fin 9, Ideal.liftRound Int.floor (x (k.castLE (by decide))) * if inSeg k j then 1 else 0

/-- The weight of stacked row `j`: one where the selected number is the label. -/
def weight (x : Fin 44 → EReal) (j : Fin 256) : EReal := if sel x j = labels (ix2 0 j) then 1 else 0

/-- The product with the selection matrix is the selected number. -/
theorem sel_eq (x : Vec Ideal S10000x44 .f32) (r : Fin 10000) (j : Fin 256) :
    ∑ k : Fin 44, k0_pay14 x (ix2 r k) * selM (ix2 k j) = sel (fun k => x (ix2 r k)) j := by
  refine (Fin.sum_univ_add (a := 9) (b := 35) (fun k : Fin (9 + 35) => k0_pay14 x (ix2 r k) * selM (ix2 k j))).trans ?_
  rw [Finset.sum_eq_zero (s := (Finset.univ : Finset (Fin 35))), add_zero]
  · refine Finset.sum_congr rfl fun k _ => ?_
    rw [pay14_apply]
    show (if k.val < 9 then _ else _) * selM (ix2 (k.castLE (by decide) : Fin 44) j) = _
    rw [if_pos k.isLt, selM_low]
    rfl
  · intro k _
    show _ * selM (ix2 (k.natAdd 9 : Fin 44) j) = 0
    rw [selM_high, mul_zero]

/-- One element of a block: the weighted rows of the stacked table, and the product with the dense weights. -/
theorem block_apply (x : Vec Ideal S10000x44 .f32) (t : Vec Ideal S256x128 .f32) (W : Vec Ideal S35x128 .f32)
    (r : Fin 10000) (d : Fin 128) :
    k0_pay13 x selM labels t W (ix2 r d)
      = (∑ j : Fin 256, weight (fun k => x (ix2 r k)) j * t (ix2 j d))
        + ∑ k : Fin 35, x (ix2 r (k.natAdd 9 : Fin 44)) * W (ix2 k d) := by
  change k0_pay1 x (k0_pay14 x) selM (constant S10000x256 .f32 0x00000000#32) labels t W (ix2 r d) = _
  pointwise [k0_pay1]
  congr 1
  refine Finset.sum_congr rfl fun j _ => ?_
  rw [sel_eq]
  unfold weight
  by_cases h : sel (fun k => x (ix2 r k)) j = labels (ix2 0 j)
  · rw [if_pos h, decide_eq_true h]
    congr 1
    show (((BitVec.setWidth 32 (BitVec.ofBool true)).toInt : ℝ) : EReal) = 1
    rw [show (BitVec.setWidth 32 (BitVec.ofBool true)).toInt = 1 from by decide]
    norm_num
  · rw [if_neg h, decide_eq_false h]
    congr 1
    show (((BitVec.setWidth 32 (BitVec.ofBool false)).toInt : ℝ) : EReal) = 0
    rw [show (BitVec.setWidth 32 (BitVec.ofBool false)).toInt = 0 from by decide]
    norm_num

/-- In a table's rows the selected number is the floor of that table's entry. -/
theorem sel_seg (x : Fin 44 → EReal) (k : Fin 9) (j : Fin 256) (h : inSeg k j) :
    sel x j = Ideal.liftRound Int.floor (x (k.castLE (by decide))) := by
  unfold sel
  rw [Finset.sum_eq_single k, if_pos h, mul_one]
  · intro l _ hl
    rw [if_neg, mul_zero]
    rintro ⟨h1, h2⟩
    obtain ⟨h3, h4⟩ := h
    rcases off_disjoint l k hl with h | h <;> omega
  · intro h; exact absurd (Finset.mem_univ k) h

/-- In the last row the selected number is zero. -/
theorem sel_last (x : Fin 44 → EReal) : sel x 255 = 0 := by
  unfold sel
  refine Finset.sum_eq_zero fun k _ => ?_
  rw [if_neg, mul_zero]
  rintro ⟨-, h⟩
  have := off_add_lt k
  change 255 < _ at h
  omega

/-- A row of table `k` has weight one exactly when it is the row that the entry's floor names. -/
theorem weight_seg (x : Fin 44 → EReal) (k : Fin 9) (n : ℕ) (hx : Ideal.liftRound Int.floor (x (k.castLE (by decide))) = ((n : ℝ) : EReal))
    (j : Fin 256) (h : inSeg k j) : weight x j = if n = j.val - off k then 1 else 0 := by
  unfold weight
  rw [sel_seg x k j h, labels_seg k j h, hx]
  simp only [EReal.coe_eq_coe_iff, Nat.cast_inj]

/-- The last row has weight one. -/
theorem weight_last (x : Fin 44 → EReal) : weight x 255 = 1 := by
  unfold weight
  rw [sel_last, labels_last, if_pos rfl]

end Cert.KernelIdeal.Hand
end
-- ==== Proof.Stack.lean ====
/-
The stacked table read at a row and a column: the nine tables at their rows, the bias in the last row, zero elsewhere.
-/
module

public import proofs.«01_k».proof.Proof.Point
public import proofs.«01_k».proof.Proof.Rows

@[expose] public section

set_option maxRecDepth 16384

noncomputable section

namespace Cert.KernelIdeal.Hand

open Cert.KernelIdeal Cert.KernelIdeal.Gen Idealize.ShloMosaic

/-- Row `i` of a table with `n` rows, zero past the last. -/
def rd {n : ℕ} (X : (⟨2, ![n, 128]⟩ : Shape).Idx → EReal) (i : ℕ) (d : Fin 128) : EReal :=
  if h : i < n then X (ix2 ⟨i, h⟩ d) else 0

/-- A row of a table within its bounds. -/
theorem rd_of_lt {n : ℕ} (X : (⟨2, ![n, 128]⟩ : Shape).Idx → EReal) {i : ℕ} (h : i < n) (d : Fin 128) : rd X i d = X (ix2 ⟨i, h⟩ d) :=
  dif_pos h

/-- The nine tables as one family. -/
def entry (x2 : Vec Ideal S119x128 .f32) (x3 : Vec Ideal S5x128 .f32) (x4 x5 : Vec Ideal S12x128 .f32) (x6 : Vec Ideal S10x128 .f32) (x7 x8 : Vec Ideal S6x128 .f32) (x9 x10 : Vec Ideal S2x128 .f32) : Fin 9 → ℕ → Fin 128 → EReal :=
  ![rd x2, rd x3, rd x4, rd x5, rd x6, rd x7, rd x8, rd x9, rd x10]

/-- A write of whole rows, read at an element: the written value in those rows, what the earlier writes left elsewhere. -/
theorem canon_rows (o n : ℕ) (inb : ∀ a, (![o, 0] : Fin 2 → ℕ) a + (![n, 128] : Fin 2 → ℕ) a ≤ S256x128.size a)
    (w : (⟨2, ![n, 128]⟩ : Shape).Idx → EReal) (L : List (View.Piece (Elt Ideal) S256x128 .f32)) (j : Fin 256) (d : Fin 128) :
    View.canon ((⟨Rect.unit ![o, 0] ![n, 128] inb, w⟩ : View.Piece (Elt Ideal) S256x128 .f32) :: L) (ix2 j d)
      = if h : o ≤ j.val ∧ j.val < o + n then w (ix2 ⟨j.val - o, by omega⟩ d) else View.canon L (ix2 j d) := by
  split
  · rename_i h
    have e : ix2 j d = (Rect.unit (s := S256x128) ![o, 0] ![n, 128] inb).emb (ix2 (⟨j.val - o, by omega⟩ : Fin n) d) := by
      funext a
      apply Fin.ext
      match a with
      | ⟨0, _⟩ => show j.val = o + 1 * (j.val - o); omega
      | ⟨1, _⟩ => show d.val = 0 + 1 * d.val; omega
    rw [e]
    exact View.canon_cons_emb (Rect.unit (s := S256x128) ![o, 0] ![n, 128] inb) w L _
  · rename_i h
    refine View.canon_cons_of_not_mem _ L fun hm => h ?_
    have hm' : ix2 j d ∈ (Rect.unit (s := S256x128) ![o, 0] ![n, 128] inb).set := hm
    have h0 := (Rect.mem_set_unit.mp hm') 0
    exact h0

/-- The scratch's first store is zero everywhere. -/
theorem pay2_apply (j : Fin 256) (d : Fin 128) : k0_pay2 (F := Ideal) (ix2 j d) = 0 := by
  pointwise [k0_pay2]

/-- The stacked table at a row and a column. -/
theorem table_read (x2 : Vec Ideal S119x128 .f32) (x3 : Vec Ideal S5x128 .f32) (x4 x5 : Vec Ideal S12x128 .f32) (x6 : Vec Ideal S10x128 .f32) (x7 x8 : Vec Ideal S6x128 .f32) (x9 x10 : Vec Ideal S2x128 .f32) (x12 : Vec Ideal S1x128 .f32) (j : Fin 256) (d : Fin 128) :
    table x2 x3 x4 x5 x6 x7 x8 x9 x10 x12 (ix2 j d)
      = if h : 255 ≤ j.val ∧ j.val < 255 + 1 then x12 (ix2 ⟨j.val - 255, by omega⟩ d)
      else if h : 200 ≤ j.val ∧ j.val < 200 + 2 then x10 (ix2 ⟨j.val - 200, by omega⟩ d)
      else if h : 192 ≤ j.val ∧ j.val < 192 + 2 then x9 (ix2 ⟨j.val - 192, by omega⟩ d)
      else if h : 184 ≤ j.val ∧ j.val < 184 + 6 then x8 (ix2 ⟨j.val - 184, by omega⟩ d)
      else if h : 176 ≤ j.val ∧ j.val < 176 + 6 then x7 (ix2 ⟨j.val - 176, by omega⟩ d)
      else if h : 160 ≤ j.val ∧ j.val < 160 + 10 then x6 (ix2 ⟨j.val - 160, by omega⟩ d)
      else if h : 144 ≤ j.val ∧ j.val < 144 + 12 then x5 (ix2 ⟨j.val - 144, by omega⟩ d)
      else if h : 128 ≤ j.val ∧ j.val < 128 + 12 then x4 (ix2 ⟨j.val - 128, by omega⟩ d)
      else if h : 120 ≤ j.val ∧ j.val < 120 + 5 then x3 (ix2 ⟨j.val - 120, by omega⟩ d)
      else if h : 0 ≤ j.val ∧ j.val < 0 + 119 then x2 (ix2 ⟨j.val - 0, by omega⟩ d)
      else 0 := by
  unfold table
  iterate 10 rw [canon_rows]
  rw [View.canon_unit_zero hz, pay2_apply]

/-- The stacked table in a table's rows. -/
theorem table_seg (x2 : Vec Ideal S119x128 .f32) (x3 : Vec Ideal S5x128 .f32) (x4 x5 : Vec Ideal S12x128 .f32) (x6 : Vec Ideal S10x128 .f32) (x7 x8 : Vec Ideal S6x128 .f32) (x9 x10 : Vec Ideal S2x128 .f32) (x12 : Vec Ideal S1x128 .f32) (d : Fin 128) (k : Fin 9) (j : Fin 256) (h : inSeg k j) :
    table x2 x3 x4 x5 x6 x7 x8 x9 x10 x12 (ix2 j d) = entry x2 x3 x4 x5 x6 x7 x8 x9 x10 k (j.val - off k) d := by
  obtain ⟨h1, h2⟩ := h
  rw [table_read]
  fin_cases k
  · change 0 ≤ j.val at h1
    change j.val < 0 + 119 at h2
    repeat rw [dif_neg (by omega)]
    rw [dif_pos ⟨h1, h2⟩]
    exact (rd_of_lt x2 (show j.val - 0 < 119 by omega) d).symm
  · change 120 ≤ j.val at h1
    change j.val < 120 + 5 at h2
    repeat rw [dif_neg (by omega)]
    rw [dif_pos ⟨h1, h2⟩]
    exact (rd_of_lt x3 (show j.val - 120 < 5 by omega) d).symm
  · change 128 ≤ j.val at h1
    change j.val < 128 + 12 at h2
    repeat rw [dif_neg (by omega)]
    rw [dif_pos ⟨h1, h2⟩]
    exact (rd_of_lt x4 (show j.val - 128 < 12 by omega) d).symm
  · change 144 ≤ j.val at h1
    change j.val < 144 + 12 at h2
    repeat rw [dif_neg (by omega)]
    rw [dif_pos ⟨h1, h2⟩]
    exact (rd_of_lt x5 (show j.val - 144 < 12 by omega) d).symm
  · change 160 ≤ j.val at h1
    change j.val < 160 + 10 at h2
    repeat rw [dif_neg (by omega)]
    rw [dif_pos ⟨h1, h2⟩]
    exact (rd_of_lt x6 (show j.val - 160 < 10 by omega) d).symm
  · change 176 ≤ j.val at h1
    change j.val < 176 + 6 at h2
    repeat rw [dif_neg (by omega)]
    rw [dif_pos ⟨h1, h2⟩]
    exact (rd_of_lt x7 (show j.val - 176 < 6 by omega) d).symm
  · change 184 ≤ j.val at h1
    change j.val < 184 + 6 at h2
    repeat rw [dif_neg (by omega)]
    rw [dif_pos ⟨h1, h2⟩]
    exact (rd_of_lt x8 (show j.val - 184 < 6 by omega) d).symm
  · change 192 ≤ j.val at h1
    change j.val < 192 + 2 at h2
    repeat rw [dif_neg (by omega)]
    rw [dif_pos ⟨h1, h2⟩]
    exact (rd_of_lt x9 (show j.val - 192 < 2 by omega) d).symm
  · change 200 ≤ j.val at h1
    change j.val < 200 + 2 at h2
    repeat rw [dif_neg (by omega)]
    rw [dif_pos ⟨h1, h2⟩]
    exact (rd_of_lt x10 (show j.val - 200 < 2 by omega) d).symm

/-- The stacked table in its last row. -/
theorem table_last (x2 : Vec Ideal S119x128 .f32) (x3 : Vec Ideal S5x128 .f32) (x4 x5 : Vec Ideal S12x128 .f32) (x6 : Vec Ideal S10x128 .f32) (x7 x8 : Vec Ideal S6x128 .f32) (x9 x10 : Vec Ideal S2x128 .f32) (x12 : Vec Ideal S1x128 .f32) (d : Fin 128) :
    table x2 x3 x4 x5 x6 x7 x8 x9 x10 x12 (ix2 (255 : Fin 256) d) = x12 (ix2 0 d) := by
  rw [table_read]
  exact dif_pos (by decide)

/-- The stacked table is zero in every other row. -/
theorem table_zero (x2 : Vec Ideal S119x128 .f32) (x3 : Vec Ideal S5x128 .f32) (x4 x5 : Vec Ideal S12x128 .f32) (x6 : Vec Ideal S10x128 .f32) (x7 x8 : Vec Ideal S6x128 .f32) (x9 x10 : Vec Ideal S2x128 .f32) (x12 : Vec Ideal S1x128 .f32) (d : Fin 128) (j : Fin 256) (hj : j ≠ 255) (h : ∀ k, ¬inSeg k j) :
    table x2 x3 x4 x5 x6 x7 x8 x9 x10 x12 (ix2 j d) = 0 := by
  rw [table_read, dif_neg (fun h => hj (Fin.ext (by have := h.1; have := j.isLt; show j.val = 255; omega)))]
  rw [dif_neg (show ¬(200 ≤ j.val ∧ j.val < 200 + 2) from h 8), dif_neg (show ¬(192 ≤ j.val ∧ j.val < 192 + 2) from h 7), dif_neg (show ¬(184 ≤ j.val ∧ j.val < 184 + 6) from h 6), dif_neg (show ¬(176 ≤ j.val ∧ j.val < 176 + 6) from h 5), dif_neg (show ¬(160 ≤ j.val ∧ j.val < 160 + 10) from h 4), dif_neg (show ¬(144 ≤ j.val ∧ j.val < 144 + 12) from h 3), dif_neg (show ¬(128 ≤ j.val ∧ j.val < 128 + 12) from h 2), dif_neg (show ¬(120 ≤ j.val ∧ j.val < 120 + 5) from h 1), dif_neg (show ¬(0 ≤ j.val ∧ j.val < 0 + 119) from h 0)]

end Cert.KernelIdeal.Hand
end
-- ==== Proof.Row.lean ====
/-
A row of an output block: the entries of the nine tables the row's features name, the bias, and the product of the
other features with the weights.
-/
module

public import proofs.«01_k».proof.Proof.Points
public import proofs.«01_k».proof.Proof.Block
public import proofs.«01_k».proof.Proof.Stack

@[expose] public section

set_option maxRecDepth 16384

noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (c : Dev nD)

/-- The region finds the selection matrix in its first constant. -/
theorem V_selM : V m c main_call0_cst = selM := by
  show StableHlo.after hostOps0 _ (Proc.devRef .tc main_call0_cst) = _
  simp only [hostOps0]
  after_results_simp
  rfl

/-- The region finds the labels in its second constant. -/
theorem V_labels : V m c main_call0_cst_0 = labels := by
  show StableHlo.after hostOps0 _ (Proc.devRef .tc main_call0_cst_0) = _
  simp only [hostOps0]
  after_results_simp
  rfl

/-- The region finds the bias as one row. -/
theorem V_bias (d : Fin 128) :
    (V m c main_call0_v0 : Vec Ideal S1x128 .f32) (ix2 0 d) = (m ((c : Thread nD τ).loc main_arg11) : Vec Ideal S128 .f32) (ix1 d) := by
  have h : (V m c main_call0_v0 : Vec Ideal S1x128 .f32)
      = shapeCast S1x128 (m ((c : Thread nD τ).loc main_arg11) : Vec Ideal S128 .f32) shapeCasts_S128_S1x128 := by
    show StableHlo.after hostOps0 _ (Proc.devRef .tc main_call0_v0) = _
    simp only [hostOps0]
    after_results_simp
    rfl
  rw [h]
  pointwise

/-- The tables as launched, as one family. -/
def entries : Fin 9 → ℕ → Fin 128 → EReal :=
  entry (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- A stacked row of table `k`. -/
theorem tab_seg (d : Fin 128) (k : Fin 9) (j : Fin 256) (h : inSeg k j) :
    (tab m c : Vec Ideal S256x128 .f32) (ix2 j d) = entries m c k (j.val - off k) d := by
  unfold tab entries
  exact table_seg _ _ _ _ _ _ _ _ _ _ d k j h

/-- The last stacked row is the bias. -/
theorem tab_last (d : Fin 128) :
    (tab m c : Vec Ideal S256x128 .f32) (ix2 255 d) = (m ((c : Thread nD τ).loc main_arg11) : Vec Ideal S128 .f32) (ix1 d) := by
  unfold tab
  exact (table_last _ _ _ _ _ _ _ _ _ _ d).trans (V_bias m c d)

/-- Every other stacked row is zero. -/
theorem tab_zero (d : Fin 128) (j : Fin 256) (hj : j ≠ 255) (h : ∀ k, ¬inSeg k j) :
    (tab m c : Vec Ideal S256x128 .f32) (ix2 j d) = 0 := by
  unfold tab
  exact table_zero _ _ _ _ _ _ _ _ _ _ d j hj h

/-- A row of an output block whose features' floors are the row numbers `n`. -/
theorem blockOf_apply (x : Vec Ideal S10000x44 .f32) (r : Fin 10000) (n : Fin 9 → ℕ) (hn : ∀ k, n k < dim k)
    (hx : ∀ k : Fin 9, Ideal.liftRound Int.floor (x (ix2 r (k.castLE (by decide) : Fin 44))) = ((n k : ℝ) : EReal))
    (d : Fin 128) :
    blockOf m c x (ix2 r d)
      = ((∑ k, entries m c k (n k) d) + (m ((c : Thread nD τ).loc main_arg11) : Vec Ideal S128 .f32) (ix1 d))
        + ∑ k : Fin 35, x (ix2 r (k.natAdd 9 : Fin 44))
          * (m ((c : Thread nD τ).loc main_arg10) : Vec Ideal S35x128 .f32) (ix2 k d) := by
  unfold blockOf
  rw [V_selM, V_labels, block_apply]
  congr 1
  refine pick_sum n hn _ _ (fun k i => entries m c k i d) _ (fun k j h => weight_seg _ k (n k) (hx k) j h)
    (weight_last _) (tab_seg m c d) (tab_last m c d) (tab_zero m c d)

end Cert.KernelIdeal.Hand

end
-- ==== Proof.Output.lean ====
/-
The program's result: the two output arrays one after the other, and each of its rows.
-/
module

public import proofs.«01_k».proof.Proof.Array
public import proofs.«01_k».proof.Proof.Row

@[expose] public section

set_option maxRecDepth 16384

noncomputable section

namespace Cert.KernelIdeal.Hand

open Cert.KernelIdeal Cert.KernelIdeal.Gen Idealize.ShloMosaic Idealize.ShloMosaic.TcCoe Idealize.SL.Sem

section Result
variable {F : FTy → Type} [FloatOps F]
variable (m : (ℓ : Loc nD τ sig) → Buf (Elt F) ℓ) (c : Dev nD)

/-- The result: the first output's rows, then the second's. -/
def output : Vec F S100000x128 .f32 :=
  concatenate S100000x128 0 [⟨S50000x128, (dats m 0 c).arrAt 15 cfg0.N⟩, ⟨S50000x128, (dats m 0 c).arrAt 16 cfg0.N⟩]
    concatenates_S50000x128_S50000x128_S100000x128_d0

/-- After the region and the operation that follows it, the result buffer holds the result. -/
theorem tail_eq : Pipeline.afterTail₀ cfgs (dats m) 0 (V0 m) [hostOps1] c main_v0 = output m c := by
  have h15 : Pipeline.withArrays (cfgs 0).spec c (V0 m c) (fun w => (dats m 0 c).arrAt w (cfgs 0).N) (Proc.devRef .tc main_call0_v1_0)
      = (dats m 0 c).arrAt 15 cfg0.N :=
    (dats m 0 c).withArrays_arrAt sharedIn0 (V0 m c) (fun w => A_eq m c w) 15
  have h16 : Pipeline.withArrays (cfgs 0).spec c (V0 m c) (fun w => (dats m 0 c).arrAt w (cfgs 0).N) (Proc.devRef .tc main_call0_v1_1)
      = (dats m 0 c).arrAt 16 cfg0.N :=
    (dats m 0 c).withArrays_arrAt sharedIn0 (V0 m c) (fun w => A_eq m c w) 16
  unfold Pipeline.afterTail₀ output
  generalize Pipeline.withArrays (cfgs 0).spec c (V0 m c) (fun w => (dats m 0 c).arrAt w (cfgs 0).N) = W at h15 h16 ⊢
  rw [← h15, ← h16]
  simp only [hostOps1, List.flatten_cons, List.flatten_nil, List.append_nil]
  after_results_simp
  rfl

/-- Every run ends with the result in the result buffer and the arguments unchanged. -/
theorem run (ρ : Dev nD → PrngReg) : θ_run defs (onTc (τ := τ) (main (F := F))) ⟨m, fun _ => 0, ρ⟩ fun r => ∀ c : Dev nD,
    r.2.mem ((c.tc : Thread nD τ).loc main_v0) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h.1 c).2 main_v0 (Pipeline.mem_restRefs_of main_v0 (by decide) (by decide))).trans
    (tail_eq m c), h.2 c⟩) (θ_run_and (run_main m ρ) (unchanged m ρ))

end Result

variable (m : (ℓ : Loc nD τ sig) → Buf (Elt Ideal) ℓ) (c : Dev nD)

/-- The features as launched. -/
abbrev feats : Vec Ideal S100000x44 .f32 := m ((c : Thread nD τ).loc main_arg0)

/-- A row of the result whose features' floors are the row numbers `n`. -/
theorem output_apply (r : Fin 100000) (n : Fin 9 → ℕ) (hn : ∀ k, n k < dim k)
    (hx : ∀ k : Fin 9, Ideal.liftRound Int.floor (feats m c (ix2 r (k.castLE (by decide) : Fin 44))) = ((n k : ℝ) : EReal))
    (d : Fin 128) :
    output m c (ix2 r d)
      = ((∑ k, entries m c k (n k) d) + (m ((c : Thread nD τ).loc main_arg11) : Vec Ideal S128 .f32) (ix1 d))
        + ∑ k : Fin 35, feats m c (ix2 r (k.natAdd 9 : Fin 44))
          * (m ((c : Thread nD τ).loc main_arg10) : Vec Ideal S35x128 .f32) (ix2 k d) := by
  have hr := r.isLt
  by_cases h : r.val < 50000
  · obtain ⟨t, s, e⟩ : ∃ (t : Fin cfg0.N) (s : Fin 10000), r.val = t.val * 10000 + s.val :=
      ⟨⟨r.val / 10000, show r.val / 10000 < 5 by omega⟩, ⟨r.val % 10000, by omega⟩, by simp only []; omega⟩
    have hb (k : Fin 44) : (iblk m c 0 t : Vec Ideal S10000x44 .f32) (ix2 s k) = feats m c (ix2 r k) :=
      iblk0_apply m c t s k r e
    have ho : output m c (ix2 r d) = blockOf m c (iblk m c 0 t) (ix2 s d) := by
      refine Eq.trans ?_ (array15 m c t s d ⟨r.val, h⟩ e)
      unfold output
      generalize (dats m 0 c).arrAt 15 cfg0.N = A
      generalize (dats m 0 c).arrAt 16 cfg0.N = B
      pointwise
      rw [dif_pos h]
    rw [ho, blockOf_apply m c _ s n hn (fun k => by rw [hb]; exact hx k) d]
    simp only [hb]
  · obtain ⟨t, s, e⟩ : ∃ (t : Fin cfg0.N) (s : Fin 10000), r.val = (t.val + 5) * 10000 + s.val :=
      ⟨⟨r.val / 10000 - 5, show r.val / 10000 - 5 < 5 by omega⟩, ⟨r.val % 10000, by omega⟩, by simp only []; omega⟩
    have hb (k : Fin 44) : (iblk m c 1 t : Vec Ideal S10000x44 .f32) (ix2 s k) = feats m c (ix2 r k) :=
      iblk1_apply m c t s k r e
    have ho : output m c (ix2 r d) = blockOf m c (iblk m c 1 t) (ix2 s d) := by
      refine Eq.trans ?_ (array16 m c t s d ⟨r.val - 50000, by omega⟩ (by simp only []; omega))
      unfold output
      generalize (dats m 0 c).arrAt 15 cfg0.N = A
      generalize (dats m 0 c).arrAt 16 cfg0.N = B
      pointwise
      rw [dif_neg h]
    rw [ho, blockOf_apply m c _ s n hn (fun k => by rw [hb]; exact hx k) d]
    simp only [hb]

end Cert.KernelIdeal.Hand

end
-- ==== Proof.Take.lean ====
/-
A lookup of rows of a table: where every row number is in range, nothing is wrapped or masked, and the result's row
is the table's row of that number.
-/
module

public import proofs.«01_k».proof.Proof.Gen.ReferenceIdeal.Read
public import Idealize.ShloMosaic.Lib.Pointwise
public import Idealize.ShloMosaic.Lib.WordCmp
public import Idealize.ShloMosaic.Lib.ReduceAll
public import Idealize.ShloMosaic.Lib.Routing.Ops

@[expose] public section

set_option maxRecDepth 16384

noncomputable section

namespace Cert.ReferenceIdeal.Hand

open Cert.ReferenceIdeal Cert.ReferenceIdeal.Gen Idealize.ShloMosaic

/-- The row numbers with the table's length added to the negative ones, as a column. -/
def wrapped (c0 : BitVec 32) (col : IVec S100000 32) : IVec S100000x1 32 :=
  broadcastInDim S100000x1 ![0] bcast_S100000_S100000x1_0
    (select (cmpi .slt col (broadcastInDim S100000 ![] bcast_S_S100000 (constantI S_ 32 0#32)))
      (addi col (broadcastInDim S100000 ![] bcast_S_S100000 (constantI S_ 32 c0))) col)

/-- Whether each row number lies between zero and the last row. -/
def inTable (c1 : BitVec 32) (idx : IVec S100000x1 32) : IVec S100000x1 1 :=
  andi (cmpi .sge idx (broadcastInDim S100000x1 ![] bcast_S_S100000x1 (constantI S_ 32 0#32)))
    (cmpi .sle idx (broadcastInDim S100000x1 ![0, 1] bcast_S1x1_S100000x1_0_1
      (broadcastInDim S1x1 ![1] bcast_S1_S1x1_1 (constantI S1 32 c1))))

/-- A number that is not negative stays as it is. -/
theorem wrapped_apply (c0 : BitVec 32) (col : IVec S100000 32) (r : Fin 100000) (v : ℕ) (hv : v < 2 ^ 31)
    (h : col (ix1 r) = BitVec.ofNat 32 v) : wrapped c0 col (ix2 r 0) = BitVec.ofNat 32 v := by
  have hc : IntOp.cmpi .slt (BitVec.ofNat 32 v) 0#32 = 0#1 :=
    (WordCmp.cmpi_slt_ofNat_eq_zero_iff (w := 32) (a := v) (b := 0) hv (by norm_num)).mpr (by omega)
  pointwise [wrapped]
  rw [h, hc]
  rfl

/-- Where every row number is in range, none is masked. -/
theorem inTable_apply (n : ℕ) (hn : n < 2 ^ 31) (idx : IVec S100000x1 32) (v : Fin 100000 → Fin n)
    (h : ∀ r, idx (ix2 r 0) = BitVec.ofNat 32 (v r).val) (i : S100000x1.Idx) :
    inTable (BitVec.ofNat 32 (n - 1)) idx i = 1#1 := by
  idx_vars i
  obtain rfl : i1 = 0 := Subsingleton.elim _ _
  have hv := (v i0).isLt
  have h0 : IntOp.cmpi .sge (BitVec.ofNat 32 (v i0).val) 0#32 = 1#1 :=
    (WordCmp.cmpi_sge_ofNat_eq_one_iff (w := 32) (a := (v i0).val) (b := 0) (by omega) (by norm_num)).mpr (by omega)
  have h1 : IntOp.cmpi .sle (BitVec.ofNat 32 (v i0).val) (BitVec.ofNat 32 (n - 1)) = 1#1 :=
    (WordCmp.cmpi_sle_ofNat_eq_one_iff (w := 32) (by omega) (by omega)).mpr (by omega)
  pointwise [inTable]
  rw [h, h0, h1]
  rfl

/-- The lookup at a row and a column is the table's entry at the row number and that column. -/
theorem take_row (n : ℕ) (hn : n < 2 ^ 31) (d : GatherDims ⟨2, ![n, 128]⟩ S100000x1 S100000x128)
    (hoff : d.offsetDims = [1]) (hcoll : d.collapsedSliceDims = [0]) (hob : d.operandBatchingDims = [])
    (hsim : d.startIndexMap = [0]) (hivd : d.indexVectorDim = 1) (c0 : BitVec 32) (col : IVec S100000 32)
    (X : FVec Ideal ⟨2, ![n, 128]⟩ .f32) (nan : FVec Ideal S100000x128 .f32) (v : Fin 100000 → Fin n)
    (h : ∀ r, col (ix1 r) = BitVec.ofNat 32 (v r).val) (r : Fin 100000) (q : Fin 128) :
    select (broadcastInDim S100000x128 ![0] bcast_S100000_S100000x128_0
        (Host.reduce IntOp.andi (inTable (BitVec.ofNat 32 (n - 1)) (wrapped c0 col)) (constantI S_ 1 1#1)
          reducesTo_S100000x1_S100000_d1 h_S_))
      (Host.gather d X (wrapped c0 col)) nan (ix2 r q) = X (ix2 (v r) q) := by
  have hw : ∀ r, wrapped c0 col (ix2 r 0) = BitVec.ofNat 32 (v r).val := fun r =>
    wrapped_apply c0 col r _ (lt_trans (v r).isLt hn) (h r)
  have hm : Host.reduce IntOp.andi (inTable (BitVec.ofNat 32 (n - 1)) (wrapped c0 col)) (constantI S_ 1 1#1)
      reducesTo_S100000x1_S100000_d1 h_S_ (ix1 r) = 1#1 :=
    Host.reduce_andi_one _ _ _ _ _ rfl (inTable_apply n hn _ v hw)
  have hg : Host.gather d X (wrapped c0 col) (ix2 r q) = X (ix2 (v r) q) :=
    Routing.gather_row d hoff hcoll hob hsim hivd X _ r q (v r) (hw r) hn
  generalize Host.reduce IntOp.andi (inTable (BitVec.ofNat 32 (n - 1)) (wrapped c0 col)) (constantI S_ 1 1#1)
      reducesTo_S100000x1_S100000_d1 h_S_ = M at hm ⊢
  generalize Host.gather d X (wrapped c0 col) = G at hg ⊢
  pointwise
  rw [hm, hg]
  rfl

end Cert.ReferenceIdeal.Hand

end
-- ==== Proof.Column.lean ====
/-
The nine lookups of the reference: each reads its table at the row number in its column of the features.
-/
module

public import proofs.«01_k».proof.Proof.Take
public import proofs.«01_k».proof.Proof.Stack

@[expose] public section

set_option maxRecDepth 16384

noncomputable section

namespace Cert.ReferenceIdeal.Hand

open Cert.ReferenceIdeal Cert.ReferenceIdeal.Gen Cert.ReferenceIdeal.Read Idealize.ShloMosaic
open Cert.KernelIdeal.Hand (dim rd rd_of_lt)

/-- Column `k` of the features' first nine, truncated to integers, as a vector. -/
def column (x0 : FVec Ideal S100000x44 .f32) (k : ℕ) (hk : S100000x9.Slices ![0, k] S100000x1) : IVec S100000 32 :=
  shapeCast S100000 (extractStridedSlice S100000x1 ![0, k]
    (fptosi 32 (extractStridedSlice S100000x9 ![0, 0] x0 slices_S100000x44_S100000x9_0_0)) hk)
    shapeCasts_S100000x1_S100000

/-- That column at a row is the feature there, truncated. -/
theorem column_apply (x0 : FVec Ideal S100000x44 .f32) (k : Fin 9) (hk : S100000x9.Slices ![0, k.val] S100000x1)
    (r : Fin 100000) : column x0 k.val hk (ix1 r)
      = FloatOps.fptosi (F := Ideal) 32 (x0 (ix2 r (k.castLE (by decide) : Fin 44))) := by
  pointwise [column]
  rfl

/-- The numbers `n` name a row of each table, and are the truncated features. -/
structure RowNumbers (x0 : FVec Ideal S100000x44 .f32) (n : Fin 100000 → Fin 9 → ℕ) : Prop where
  lt : ∀ r k, n r k < dim k
  feature : ∀ r k, FloatOps.fptosi (F := Ideal) 32 (x0 (ix2 r (k.castLE (by decide) : Fin 44))) = BitVec.ofNat 32 (n r k)

/-- No table has more rows than a signed word counts. -/
theorem dim_lt_pow (k : Fin 9) : dim k < 2 ^ 31 := by revert k; decide

variable {x0 : FVec Ideal S100000x44 .f32} {n : Fin 100000 → Fin 9 → ℕ} (h : RowNumbers x0 n)
  (r : Fin 100000) (q : Fin 128)
include h

/-- One lookup: the printed operations on column `k` and a table of `dim k` rows. -/
theorem lookup (k : Fin 9) (hk : S100000x9.Slices ![0, k.val] S100000x1)
    (d : GatherDims ⟨2, ![dim k, 128]⟩ S100000x1 S100000x128)
    (hoff : d.offsetDims = [1]) (hcoll : d.collapsedSliceDims = [0]) (hob : d.operandBatchingDims = [])
    (hsim : d.startIndexMap = [0]) (hivd : d.indexVectorDim = 1) (c0 : BitVec 32)
    (X : FVec Ideal ⟨2, ![dim k, 128]⟩ .f32) (nan : FVec Ideal S100000x128 .f32) :
    select (broadcastInDim S100000x128 ![0] bcast_S100000_S100000x128_0
        (Host.reduce IntOp.andi (inTable (BitVec.ofNat 32 (dim k - 1)) (wrapped c0 (column x0 k.val hk)))
          (constantI S_ 1 1#1) reducesTo_S100000x1_S100000_d1 h_S_))
      (Host.gather d X (wrapped c0 (column x0 k.val hk))) nan (ix2 r q) = rd X (n r k) q :=
  (take_row (dim k) (dim_lt_pow k) d hoff hcoll hob hsim hivd c0 _ X nan (fun r => ⟨n r k, h.lt r k⟩)
    (fun r => (column_apply x0 k hk r).trans (h.feature r k)) r q).trans
      (rd_of_lt X (h.lt r k) q).symm

/-- The first lookup. -/
theorem lookup0 (X : FVec Ideal S119x128 .f32) :
    val_main_v5 (F := Ideal) x0 X (ix2 r q) = rd X (n r 0) q :=
  lookup h r q 0 slices_S100000x9_S100000x1_0_0 gather_S119x128_S100000x1_S100000x128_1_0_n_n_0_1_1128
    rfl rfl rfl rfl rfl 119#32 X _

/-- The second lookup. -/
theorem lookup1 (X : FVec Ideal S5x128 .f32) :
    val_main_v9 (F := Ideal) x0 X (ix2 r q) = rd X (n r 1) q :=
  lookup h r q 1 slices_S100000x9_S100000x1_0_1 gather_S5x128_S100000x1_S100000x128_1_0_n_n_0_1_1128
    rfl rfl rfl rfl rfl 5#32 X _

/-- The third lookup. -/
theorem lookup2 (X : FVec Ideal S12x128 .f32) :
    val_main_v13 (F := Ideal) x0 X (ix2 r q) = rd X (n r 2) q :=
  lookup h r q 2 slices_S100000x9_S100000x1_0_2 gather_S12x128_S100000x1_S100000x128_1_0_n_n_0_1_1128
    rfl rfl rfl rfl rfl 12#32 X _

/-- The fourth lookup. -/
theorem lookup3 (X : FVec Ideal S12x128 .f32) :
    val_main_v17 (F := Ideal) x0 X (ix2 r q) = rd X (n r 3) q :=
  lookup h r q 3 slices_S100000x9_S100000x1_0_3 gather_S12x128_S100000x1_S100000x128_1_0_n_n_0_1_1128
    rfl rfl rfl rfl rfl 12#32 X _

/-- The fifth lookup. -/
theorem lookup4 (X : FVec Ideal S10x128 .f32) :
    val_main_v21 (F := Ideal) x0 X (ix2 r q) = rd X (n r 4) q :=
  lookup h r q 4 slices_S100000x9_S100000x1_0_4 gather_S10x128_S100000x1_S100000x128_1_0_n_n_0_1_1128
    rfl rfl rfl rfl rfl 10#32 X _

/-- The sixth lookup. -/
theorem lookup5 (X : FVec Ideal S6x128 .f32) :
    val_main_v25 (F := Ideal) x0 X (ix2 r q) = rd X (n r 5) q :=
  lookup h r q 5 slices_S100000x9_S100000x1_0_5 gather_S6x128_S100000x1_S100000x128_1_0_n_n_0_1_1128
    rfl rfl rfl rfl rfl 6#32 X _

/-- The seventh lookup. -/
theorem lookup6 (X : FVec Ideal S6x128 .f32) :
    val_main_v29 (F := Ideal) x0 X (ix2 r q) = rd X (n r 6) q :=
  lookup h r q 6 slices_S100000x9_S100000x1_0_6 gather_S6x128_S100000x1_S100000x128_1_0_n_n_0_1_1128
    rfl rfl rfl rfl rfl 6#32 X _

/-- The eighth lookup. -/
theorem lookup7 (X : FVec Ideal S2x128 .f32) :
    val_main_v33 (F := Ideal) x0 X (ix2 r q) = rd X (n r 7) q :=
  lookup h r q 7 slices_S100000x9_S100000x1_0_7 gather_S2x128_S100000x1_S100000x128_1_0_n_n_0_1_1128
    rfl rfl rfl rfl rfl 2#32 X _

/-- The ninth lookup. -/
theorem lookup8 (X : FVec Ideal S2x128 .f32) :
    val_main_v37 (F := Ideal) x0 X (ix2 r q) = rd X (n r 8) q :=
  lookup h r q 8 slices_S100000x9_S100000x1_0_8 gather_S2x128_S100000x1_S100000x128_1_0_n_n_0_1_1128
    rfl rfl rfl rfl rfl 2#32 X _

end Cert.ReferenceIdeal.Hand

end
-- ==== Proof.Range.lean ====
/-
What the precondition gives: each of the first nine features of a row is a real number whose floor is a row number of
its table, and truncating it gives that number.
-/
module

public import proofs.«01_k».proof.Proof.Column
public import proofs.«01_k».proof.Proof.Tables
public import proofs.«01_k».proof.Proof.Gen.Pre_in_range

@[expose] public section

set_option maxRecDepth 16384

noncomputable section

namespace Cert.ReferenceIdeal.Hand

open Cert.ReferenceIdeal Idealize.ShloMosaic
open Cert.KernelIdeal.Hand (dim ofBits_of_nat)

/-- The precondition's bounds are the tables' numbers of rows. -/
theorem bound_eq (k : Fin 9) : Ideal.ofBits .f32 (Cert.Pre_in_range.lit0 k) = ((dim k : ℝ) : EReal) :=
  ofBits_of_nat _ (dim k) (by revert k; decide) (by revert k; decide) (by revert k; decide) (by revert k; decide)
    (by revert k; decide)

/-- A number from zero up to `b` has a floor below `b`, and truncates to it. -/
theorem floor_in_range (x : EReal) (b : ℕ) (hb : b ≤ 2 ^ 30) (h0 : 0 ≤ x) (h1 : x < ((b : ℝ) : EReal)) :
    ∃ n : ℕ, n < b ∧ Ideal.liftRound Int.floor x = ((n : ℝ) : EReal)
      ∧ FloatOps.fptosi (F := Ideal) (φ := .f32) 32 x = BitVec.ofNat 32 n := by
  obtain ⟨a, rfl⟩ : ∃ a : ℝ, x = (a : EReal) :=
    ⟨x.toReal, (EReal.coe_toReal (ne_top_of_lt h1) (fun e => by rw [e] at h0; exact absurd h0 (by simp))).symm⟩
  have ha : 0 ≤ a := by exact_mod_cast h0
  have hlt : a < (b : ℝ) := by exact_mod_cast h1
  have hn : ⌊a⌋₊ < b := (Nat.floor_lt ha).mpr hlt
  have hf : ⌊a⌋ = ((⌊a⌋₊ : ℕ) : ℤ) := (Int.natCast_floor_eq_floor ha).symm
  refine ⟨⌊a⌋₊, hn, ?_, ?_⟩
  · rw [Ideal.liftRound_coe, hf, Int.cast_natCast]
  · show Ideal.fptosi 32 (a : EReal) = _
    unfold Ideal.fptosi
    rw [Ideal.toIntClamped_coe, if_pos ha, hf, min_eq_right (by norm_num; omega), max_eq_right (by norm_num)]
    exact BitVec.ofInt_natCast 32 _

/-- No table has more than `2 ^ 30` rows. -/
theorem dim_le_pow (k : Fin 9) : dim k ≤ 2 ^ 30 := by revert k; decide

/-- A vector of nine entries is listed in order. -/
theorem rowMajor_nine (k : Fin 9) : (Cert.Pre_in_range.S9.rowMajor (ix1 k) : Fin 9) = k := by
  fin_cases k <;> rfl

/-- The precondition, feature by feature. -/
theorem feature_in_range (x0 : FVec Ideal S100000x44 .f32) (x1 : FVec Ideal S119x128 .f32) (x2 : FVec Ideal S5x128 .f32)
    (x3 x4 : FVec Ideal S12x128 .f32) (x5 : FVec Ideal S10x128 .f32) (x6 x7 : FVec Ideal S6x128 .f32)
    (x8 x9 : FVec Ideal S2x128 .f32) (x10 : FVec Ideal S35x128 .f32) (x11 : FVec Ideal S128 .f32)
    (h : Cert.Pre_in_range.fn (F := Ideal) x0 x1 x2 x3 x4 x5 x6 x7 x8 x9 x10 x11 = fun _ => 1#1)
    (r : Fin 100000) (k : Fin 9) :
    0 ≤ x0 (ix2 r (k.castLE (by decide) : Fin 44))
      ∧ x0 (ix2 r (k.castLE (by decide) : Fin 44)) < ((dim k : ℝ) : EReal) := by
  have e := congrFun h (fun a => a.elim0)
  dsimp only [Cert.Pre_in_range.fn] at e
  haveI : Subsingleton Cert.Pre_in_range.S_.Idx := ⟨fun a b => funext fun i => i.elim0⟩
  have e' := Host.reduce_andi_all _ _ _ _ _ e (ix2 r k)
  rw [← bound_eq k]
  obtain ⟨e0, e1⟩ := IntOp.andi_eq_one.1 e'
  refine ⟨?_, ?_⟩
  · revert e0
    pointwise
    exact (WordCmp.ofBool_decide_eq_one_iff _).1
  · revert e1
    pointwise
    rw [rowMajor_nine]
    exact (WordCmp.ofBool_decide_eq_one_iff _).1

/-- Under the precondition the floors of the features are row numbers. -/
theorem rowNumbers (x0 : FVec Ideal S100000x44 .f32) (x1 : FVec Ideal S119x128 .f32) (x2 : FVec Ideal S5x128 .f32)
    (x3 x4 : FVec Ideal S12x128 .f32) (x5 : FVec Ideal S10x128 .f32) (x6 x7 : FVec Ideal S6x128 .f32)
    (x8 x9 : FVec Ideal S2x128 .f32) (x10 : FVec Ideal S35x128 .f32) (x11 : FVec Ideal S128 .f32)
    (h : Cert.Pre_in_range.fn (F := Ideal) x0 x1 x2 x3 x4 x5 x6 x7 x8 x9 x10 x11 = fun _ => 1#1) :
    ∃ n : Fin 100000 → Fin 9 → ℕ, RowNumbers x0 n
      ∧ ∀ r k, Ideal.liftRound Int.floor (x0 (ix2 r (k.castLE (by decide) : Fin 44))) = ((n r k : ℝ) : EReal) := by
  have hk : ∀ (r : Fin 100000) (k : Fin 9), ∃ n : ℕ, n < dim k
      ∧ Ideal.liftRound Int.floor (x0 (ix2 r (k.castLE (by decide) : Fin 44))) = ((n : ℝ) : EReal)
      ∧ FloatOps.fptosi (F := Ideal) (φ := .f32) 32 (x0 (ix2 r (k.castLE (by decide) : Fin 44))) = BitVec.ofNat 32 n :=
    fun r k =>
      have ⟨h0, h1⟩ := feature_in_range x0 x1 x2 x3 x4 x5 x6 x7 x8 x9 x10 x11 h r k
      floor_in_range _ (dim k) (dim_le_pow k) h0 h1
  choose n hn using hk
  exact ⟨n, ⟨fun r k => (hn r k).1, fun r k => (hn r k).2.2⟩, fun r k => (hn r k).2.1⟩

end Cert.ReferenceIdeal.Hand

end
-- ==== Proof.Reference.lean ====
/-
The reference's result, element by element: the sum of the nine tables' entries at the row's numbers, the product of
the other features with the weights, and the bias.
-/
module

public import proofs.«01_k».proof.Proof.Column

@[expose] public section

set_option maxRecDepth 16384

noncomputable section

namespace Cert.ReferenceIdeal.Hand

open Cert.ReferenceIdeal Cert.ReferenceIdeal.Gen Cert.ReferenceIdeal.Read Idealize.ShloMosaic
open Cert.KernelIdeal.Hand (entry)

/-- The product of the features from the tenth on with the weights. -/
theorem dense_apply (x0 : FVec Ideal S100000x44 .f32) (x10 : FVec Ideal S35x128 .f32) (r : Fin 100000) (q : Fin 128) :
    val_main_v40 (F := Ideal) x0 x10 (ix2 r q)
      = ∑ k : Fin 35, x0 (ix2 r (k.natAdd 9 : Fin 44)) * x10 (ix2 k q) := by
  pointwise [val_main_v40, val_main_v39]
  rfl

/-- The bias, the same on every row. -/
theorem bias_apply (x11 : FVec Ideal S128 .f32) (r : Fin 100000) (q : Fin 128) :
    val_main_v43 (F := Ideal) x11 (ix2 r q) = x11 (ix1 q) := by
  pointwise [val_main_v43, val_main_v42]

/-- The sum starts from zero. -/
theorem start_apply (r : Fin 100000) (q : Fin 128) : val_main_v2 (F := Ideal) (ix2 r q) = 0 := by
  pointwise [val_main_v2, val_main_cst]

/-- The reference's result at a row and a column. -/
theorem result_apply {x0 : FVec Ideal S100000x44 .f32} {n : Fin 100000 → Fin 9 → ℕ} (h : RowNumbers x0 n)
    (x1 : FVec Ideal S119x128 .f32) (x2 : FVec Ideal S5x128 .f32) (x3 x4 : FVec Ideal S12x128 .f32)
    (x5 : FVec Ideal S10x128 .f32) (x6 x7 : FVec Ideal S6x128 .f32) (x8 x9 : FVec Ideal S2x128 .f32)
    (x10 : FVec Ideal S35x128 .f32) (x11 : FVec Ideal S128 .f32) (r : Fin 100000) (q : Fin 128) :
    val_main_v44 (F := Ideal) x0 x1 x2 x3 x4 x5 x6 x7 x8 x9 x10 x11 (ix2 r q)
      = ((∑ k, entry x1 x2 x3 x4 x5 x6 x7 x8 x9 k (n r k) q)
          + ∑ k : Fin 35, x0 (ix2 r (k.natAdd 9 : Fin 44)) * x10 (ix2 k q)) + x11 (ix1 q) := by
  rw [val_main_v44_apply, val_main_v41_apply, val_main_v38_apply, val_main_v34_apply, val_main_v30_apply,
    val_main_v26_apply, val_main_v22_apply, val_main_v18_apply, val_main_v14_apply, val_main_v10_apply,
    val_main_v6_apply, start_apply, dense_apply, bias_apply, lookup0 h, lookup1 h, lookup2 h, lookup3 h, lookup4 h,
    lookup5 h, lookup6 h, lookup7 h, lookup8 h]
  congr 2
  simp only [Fin.sum_univ_castSucc, Finset.univ_eq_empty, Finset.sum_empty]
  rfl

end Cert.ReferenceIdeal.Hand

end
-- ==== Proof.Equation.lean ====
/-
The equation: from memories that agree on the arguments, where every categorical feature is in range, the kernel's
result is the reference's.
-/
module

public import proofs.«01_k».proof.Proof.Frames
public import proofs.«01_k».proof.Proof.Output
public import proofs.«01_k».proof.Proof.Range
public import proofs.«01_k».proof.Proof.Reference

@[expose] public section

set_option maxRecDepth 16384

noncomputable section

namespace Cert.Proof

open Idealize.ShloMosaic Idealize.SL.Sem
open Cert.KernelIdeal.Hand (output output_apply entries)
open Cert.ReferenceIdeal (S100000x44 S119x128 S5x128 S12x128 S10x128 S6x128 S2x128 S35x128 S128)
open Cert.ReferenceIdeal.Read (val_main_v44 val_main_v44_eq)
open Cert.ReferenceIdeal.Hand (rowNumbers result_apply)

/-- Where every categorical feature is in range, the reference's value at the kernel's arguments is the kernel's result:
    at each element both add the nine table entries, the dot product and the bias, in two orders. -/
theorem output_eq (m : (ℓ : Loc Cert.KernelIdeal.nD Cert.KernelIdeal.τ Cert.KernelIdeal.sig) → Buf (Elt Ideal) ℓ)
    (hm : Pre_KernelIdeal_in_range m) (c : Dev Cert.KernelIdeal.nD) {x0 : FVec Ideal S100000x44 .f32}
    {x1 : FVec Ideal S119x128 .f32} {x2 : FVec Ideal S5x128 .f32} {x3 x4 : FVec Ideal S12x128 .f32}
    {x5 : FVec Ideal S10x128 .f32} {x6 x7 : FVec Ideal S6x128 .f32} {x8 x9 : FVec Ideal S2x128 .f32}
    {x10 : FVec Ideal S35x128 .f32} {x11 : FVec Ideal S128 .f32}
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7))
    (h8 : x8 = m ((c.tc : Thread Cert.KernelIdeal.nD Cert.KernelIdeal.τ).loc Cert.KernelIdeal.main_arg8))
    (h9 : x9 = m ((c.tc : Thread Cert.KernelIdeal.nD Cert.KernelIdeal.τ).loc Cert.KernelIdeal.main_arg9))
    (h10 : x10 = m ((c.tc : Thread Cert.KernelIdeal.nD Cert.KernelIdeal.τ).loc Cert.KernelIdeal.main_arg10))
    (h11 : x11 = m ((c.tc : Thread Cert.KernelIdeal.nD Cert.KernelIdeal.τ).loc Cert.KernelIdeal.main_arg11)) :
    val_main_v44 (F := Ideal) x0 x1 x2 x3 x4 x5 x6 x7 x8 x9 x10 x11 = output m c := by
  subst h0 h1 h2 h3 h4 h5 h6 h7 h8 h9 h10 h11
  obtain ⟨n, hn, hf⟩ := rowNumbers _ _ _ _ _ _ _ _ _ _ _ _ (hm c)
  funext i
  idx_vars i
  exact (result_apply hn _ _ _ _ _ _ _ _ _ _ _ i0 i1).trans
    ((add_right_comm _ _ _).trans (output_apply m c i0 (n i0) (hn.lt i0) (hf i0) i1).symm)

/-- The kernel and the reference, read over the extended reals, end with equal results wherever every categorical
    feature is in range. -/
theorem algebraic : Cert.algebraic_KernelIdeal_ReferenceIdeal_pre_in_range :=
  fun m g m' g' hm hmm' =>
  ⟨fun c => output m c, Cert.KernelIdeal.Hand.run m g,
    (θ_run Cert.ReferenceIdeal.defs _ _).mono
      (fun _ h c =>
        have ⟨h0, h1, h2, h3, h4, h5, h6, h7, h8, h9, h10, h11⟩ := hmm' c
        ⟨((h c).1.trans (val_main_v44_eq (StableHlo.launchContents m' c))).trans
          (output_eq m hm c h0 h1 h2 h3 h4 h5 h6 h7 h8 h9 h10 h11), (h c).2⟩)
      (Cert.ReferenceIdeal.Value.run (F := Ideal) m' g')⟩

end Cert.Proof

end
-- ==== Proof.lean ====
module

public import proofs.«01_k».proof.Defs
public import proofs.«01_k».proof.Proof.Frames
public import proofs.«01_k».proof.Proof.Equation
public import proofs.«01_k».proof.Proof.Gen.ReferenceIdeal.Read
public import proofs.«01_k».proof.Proof.Gen.Pre_in_range

@[expose] public section

noncomputable section

namespace Cert.Proof

open Idealize.ShloMosaic

/-- Everything the certificate claims. -/
theorem claim : Cert.Claim :=
  ⟨Cert.Kernel.Gen.facts, Cert.KernelIdeal.Gen.facts, Cert.ReferenceIdeal.Gen.facts,
    Cert.Pre_in_range.Gen.facts, frame_kernel, frame_kernelIdeal, frame_kernelIdeal_in_range, frame_reference,
    frame_reference_in_range, trivial, algebraic⟩

end Cert.Proof

end
